-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S47104x5120 : Shape := ⟨2, ![47104, 5120]⟩
abbrev S5120x5120 : Shape := ⟨2, ![5120, 5120]⟩
abbrev S5120x40 : Shape := ⟨2, ![5120, 40]⟩
abbrev S2048x1280 : Shape := ⟨2, ![2048, 1280]⟩
abbrev S1280x1280 : Shape := ⟨2, ![1280, 1280]⟩
abbrev S1280x40 : Shape := ⟨2, ![1280, 40]⟩
abbrev S32x1280 : Shape := ⟨2, ![32, 1280]⟩
abbrev S32x128 : Shape := ⟨2, ![32, 128]⟩
abbrev S32 : Shape := ⟨1, ![32]⟩
abbrev S32x1 : Shape := ⟨2, ![32, 1]⟩
abbrev S32x40 : Shape := ⟨2, ![32, 40]⟩

abbrev nBuf : Space → Nat
  | .hbm => 6
  | .vmem => 12
  | .smem => 0
  | _ => 0

abbrev bufTy : (tb : Table) → Fin (tcTables nBuf tb) → BufTy
  | .hbm, ⟨0, _⟩ => ⟨S47104x5120, .bf16⟩
  | .hbm, ⟨1, _⟩ => ⟨S47104x5120, .bf16⟩
  | .hbm, ⟨2, _⟩ => ⟨S5120x5120, .f32⟩
  | .hbm, ⟨3, _⟩ => ⟨S5120x5120, .i8⟩
  | .hbm, ⟨4, _⟩ => ⟨S5120x40, .f32⟩
  | .hbm, ⟨5, _⟩ => ⟨S5120x5120, .f32⟩
  | .local _ .vmem, ⟨0, _⟩ => ⟨S2048x1280, .bf16⟩
  | .local _ .vmem, ⟨1, _⟩ => ⟨S2048x1280, .bf16⟩
  | .local _ .vmem, ⟨2, _⟩ => ⟨S2048x1280, .bf16⟩
  | .local _ .vmem, ⟨3, _⟩ => ⟨S2048x1280, .bf16⟩
  | .local _ .vmem, ⟨4, _⟩ => ⟨S1280x1280, .f32⟩
  | .local _ .vmem, ⟨5, _⟩ => ⟨S1280x1280, .f32⟩
  | .local _ .vmem, ⟨6, _⟩ => ⟨S1280x1280, .i8⟩
  | .local _ .vmem, ⟨7, _⟩ => ⟨S1280x1280, .i8⟩
  | .local _ .vmem, ⟨8, _⟩ => ⟨S1280x40, .f32⟩
  | .local _ .vmem, ⟨9, _⟩ => ⟨S1280x40, .f32⟩
  | .local _ .vmem, ⟨10, _⟩ => ⟨S1280x1280, .f32⟩
  | .local _ .vmem, ⟨11, _⟩ => ⟨S1280x1280, .f32⟩
  | _, _ => ⟨S47104x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 23], ![false, false, false]⟩

def k0_cond2 (i : grid0.Coords) : BitVec 1 :=
  let arg2 : BitVec 32 := BitVec.ofNat 32 (i 2).val
  let c22_i32 : BitVec 32 := 22#32
  let v10 : BitVec 1 := Scalar.cmpi .eq arg2 c22_i32
  let v11 : BitVec 32 := Scalar.extui v10
  let c0_i32_8 : BitVec 32 := 0#32
  let v12 : BitVec 1 := Scalar.cmpi .ne v11 c0_i32_8
  v12

@[reducible] def k0_t1_loop : Scf.Loop 32 :=
  let c0_i32_9 : BitVec 32 := 0#32
  let c40_i32 : BitVec 32 := 40#32
  let v13 : BitVec 32 := Scalar.addi c0_i32_9 c40_i32
  let c1_i32 : BitVec 32 := 1#32
  ⟨c0_i32_9, v13, c1_i32⟩
def k0_mult1 (k0_t1 : Fin k0_t1_loop.trips) : BitVec 32 :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  v14
def k0_off1 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v16 : Index := Scalar.indexCast v15
  let c0_11 : Index := 0#32
  ![v16.toNat, 0]
def k0_off2 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v223 : Index := Scalar.indexCast v15
  let c0_73 : Index := 0#32
  ![v223.toNat, 0]
def k0_off3 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v227 : Index := Scalar.indexCast v15
  let c0_74 : Index := 0#32
  ![v227.toNat, 0]
def k0_off4 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v239 : Index := Scalar.indexCast v15
  let c128 : Index := 128#32
  ![v239.toNat, 128]
def k0_off5 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v251 : Index := Scalar.indexCast v15
  let c256 : Index := 256#32
  ![v251.toNat, 256]
def k0_off6 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v263 : Index := Scalar.indexCast v15
  let c384 : Index := 384#32
  ![v263.toNat, 384]
def k0_off7 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v275 : Index := Scalar.indexCast v15
  let c512 : Index := 512#32
  ![v275.toNat, 512]
def k0_off8 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v287 : Index := Scalar.indexCast v15
  let c640 : Index := 640#32
  ![v287.toNat, 640]
def k0_off9 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v299 : Index := Scalar.indexCast v15
  let c768 : Index := 768#32
  ![v299.toNat, 768]
def k0_off10 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v311 : Index := Scalar.indexCast v15
  let c896 : Index := 896#32
  ![v311.toNat, 896]
def k0_off11 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v323 : Index := Scalar.indexCast v15
  let c1024 : Index := 1024#32
  ![v323.toNat, 1024]
def k0_off12 (k0_t1 : Fin k0_t1_loop.trips) : Fin 2 → Nat :=
  let c0_i32_9 : BitVec 32 := 0#32
  let c1_i32 : BitVec 32 := 1#32
  let arg9 : BitVec 32 := Scf.iv c0_i32_9 c1_i32 k0_t1
  let c32_i32 : BitVec 32 := 32#32
  let v14 : BitVec 32 := Scalar.muli arg9 c32_i32
  let v15 : BitVec 32 := v14
  let v335 : Index := Scalar.indexCast v15
  let c1152 : Index := 1152#32
  ![v335.toNat, 1152]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1280x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1280x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1280x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S47104x5120 : Shape := ⟨2, ![47104, 5120]⟩
abbrev S5120x5120 : Shape := ⟨2, ![5120, 5120]⟩
abbrev S5120x40 : Shape := ⟨2, ![5120, 40]⟩
abbrev S5120x40x128 : Shape := ⟨3, ![5120, 40, 128]⟩
abbrev S5120x40x1 : Shape := ⟨3, ![5120, 40, 1]⟩

abbrev nBuf : Space → Nat
  | .hbm => 6
  | .vmem => 6
  | .smem => 0
  | _ => 0

abbrev bufTy : (tb : Table) → Fin (tcTables nBuf tb) → BufTy
  | .hbm, ⟨0, _⟩ => ⟨S47104x5120, .bf16⟩
  | .hbm, ⟨1, _⟩ => ⟨S47104x5120, .bf16⟩
  | .hbm, ⟨2, _⟩ => ⟨S5120x5120, .f32⟩
  | .hbm, ⟨3, _⟩ => ⟨S5120x5120, .i8⟩
  | .hbm, ⟨4, _⟩ => ⟨S5120x40, .f32⟩
  | .hbm, ⟨5, _⟩ => ⟨S5120x5120, .f32⟩
  | .local _ .vmem, ⟨0, _⟩ => ⟨S47104x5120, .bf16⟩
  | .local _ .vmem, ⟨1, _⟩ => ⟨S47104x5120, .bf16⟩
  | .local _ .vmem, ⟨2, _⟩ => ⟨S5120x5120, .f32⟩
  | .local _ .vmem, ⟨3, _⟩ => ⟨S5120x5120, .i8⟩
  | .local _ .vmem, ⟨4, _⟩ => ⟨S5120x40, .f32⟩
  | .local _ .vmem, ⟨5, _⟩ => ⟨S5120x5120, .f32⟩
  | _, _ => ⟨S47104x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S47104x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S47104x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelPoints.lean ====
/- The kernel's grid points: at which of them its two conditionals are taken, and the staging buffers it is given there.
   These and the next modules (KernelRunA, KernelRunB, KernelRunC, KernelFrame) prove, over any floats, that the kernel runs
   and leaves its arguments as they were; nothing is said here of what it computes. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Args

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body clears its accumulator: the last grid coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 23) — by arithmetic of the point. -/
theorem hcond0_0 : ∀ t : Fin cfg0.N, cond0_0 (grid0.coords t) ↔ t.val % 23 = 0 :=
  (fun t => by
    have ht : t.val < 368 := Nat.lt_of_lt_of_eq t.isLt N_0
    have e0 : (grid0.coords t 0).val = t.val / 92 % 4 := Pipeline.Grid.coords_val t 0 (by decide) rfl
    have e1 : (grid0.coords t 1).val = t.val / 23 % 4 := Pipeline.Grid.coords_val t 1 (by decide) rfl
    have e2 : (grid0.coords t 2).val = t.val / 1 % 23 := Pipeline.Grid.coords_val t 2 (by decide) rfl
    simp only [cond0_0, e0, e1, e2]
    word_cmp
   : ∀ t : Fin grid0.N, cond0_0 (grid0.coords t) ↔ t.val % 23 = 0)

/-- The condition under which the body quantizes: the last grid coordinate is 22. -/
abbrev cond0_1 (i : grid0.Coords) : Prop := k0_cond2 i = 1#1
/-- It holds at the points ≡ 22 (mod 23) — by arithmetic of the point. -/
theorem hcond0_1 : ∀ t : Fin cfg0.N, cond0_1 (grid0.coords t) ↔ t.val % 23 = 22 :=
  (fun t => by
    have ht : t.val < 368 := Nat.lt_of_lt_of_eq t.isLt N_0
    have e0 : (grid0.coords t 0).val = t.val / 92 % 4 := Pipeline.Grid.coords_val t 0 (by decide) rfl
    have e1 : (grid0.coords t 1).val = t.val / 23 % 4 := Pipeline.Grid.coords_val t 1 (by decide) rfl
    have e2 : (grid0.coords t 2).val = t.val / 1 % 23 := Pipeline.Grid.coords_val t 2 (by decide) rfl
    simp only [cond0_1, k0_cond2, e0, e1, e2]
    word_cmp
   : ∀ t : Fin grid0.N, cond0_1 (grid0.coords t) ↔ t.val % 23 = 22)

/-! ## The inputs are read at every point -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The staging buffers -/

/-- Each window's current staging memref at point `t`, and the proof that it is a whole buffer. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x40 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x1280 .f32 := win0_5.stage (cfg0.slots t 5)
abbrev hs0_5 (t : Fin cfg0.N) : (ms0_5 t).IsWhole := hstage0_5 ((cfg0.slots t 5).cast nbuf0_5)

end Cert.Kernel.Args

end
-- ==== Proof.KernelRunA.lean ====
/- The kernel's body runs at the first of the 23 steps of an output block: the accumulator is cleared, nothing is quantized. -/
module

public import proofs.«01_k».proof.Proof.KernelPoints

@[expose] public section

set_option maxRecDepth 16384

noncomputable section

namespace Cert.Kernel.Args

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the first of the 23 steps of an output block: the accumulator is cleared, nothing is quantized.
    The inputs' buffers are handed back as they were; the results' buffers hold anything before and something after. -/
theorem bodyRunA (c : Dev nD) (i : grid0.Coords) (arg3 : Memref sig .tc .vmem S2048x1280 .bf16) (harg3 : arg3.IsWhole) (arg4 : Memref sig .tc .vmem S2048x1280 .bf16) (harg4 : arg4.IsWhole) (arg5 : Memref sig .tc .vmem S1280x1280 .f32) (harg5 : arg5.IsWhole) (arg6 : Memref sig .tc .vmem S1280x1280 .i8) (harg6 : arg6.IsWhole) (arg7 : Memref sig .tc .vmem S1280x40 .f32) (harg7 : arg7.IsWhole) (arg8 : Memref sig .tc .vmem S1280x1280 .f32) (harg8 : arg8.IsWhole) (hc0 : cond0_0 i) (hc1 : ¬cond0_1 i)
    (x0 : Vec F S2048x1280 .bf16) (x1 : Vec F S2048x1280 .bf16) (x2 : Vec F S1280x1280 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

end Cert.Kernel.Args

end
-- ==== Proof.KernelRunB.lean ====
/- The kernel's body runs at a step between the first and the last of an output block: nothing is cleared, nothing is quantized. -/
module

public import proofs.«01_k».proof.Proof.KernelRunA

@[expose] public section

set_option maxRecDepth 16384

noncomputable section

namespace Cert.Kernel.Args

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at a step between the first and the last of an output block: nothing is cleared, nothing is quantized.
    The inputs' buffers are handed back as they were; the results' buffers hold anything before and something after. -/
theorem bodyRunB (c : Dev nD) (i : grid0.Coords) (arg3 : Memref sig .tc .vmem S2048x1280 .bf16) (harg3 : arg3.IsWhole) (arg4 : Memref sig .tc .vmem S2048x1280 .bf16) (harg4 : arg4.IsWhole) (arg5 : Memref sig .tc .vmem S1280x1280 .f32) (harg5 : arg5.IsWhole) (arg6 : Memref sig .tc .vmem S1280x1280 .i8) (harg6 : arg6.IsWhole) (arg7 : Memref sig .tc .vmem S1280x40 .f32) (harg7 : arg7.IsWhole) (arg8 : Memref sig .tc .vmem S1280x1280 .f32) (harg8 : arg8.IsWhole) (hc0 : ¬cond0_0 i) (hc1 : ¬cond0_1 i)
    (x0 : Vec F S2048x1280 .bf16) (x1 : Vec F S2048x1280 .bf16) (x2 : Vec F S1280x1280 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

end Cert.Kernel.Args

end
-- ==== Proof.KernelRunC.lean ====
/- The kernel's body runs at the last of the 23 steps of an output block: nothing is cleared, the block is quantized. -/
module

public import proofs.«01_k».proof.Proof.KernelRunB

@[expose] public section

set_option maxRecDepth 16384

noncomputable section

namespace Cert.Kernel.Args

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body at the last of the 23 steps of an output block: nothing is cleared, the block is quantized.
    The inputs' buffers are handed back as they were; the results' buffers hold anything before and something after. -/
theorem bodyRunC (c : Dev nD) (i : grid0.Coords) (arg3 : Memref sig .tc .vmem S2048x1280 .bf16) (harg3 : arg3.IsWhole) (arg4 : Memref sig .tc .vmem S2048x1280 .bf16) (harg4 : arg4.IsWhole) (arg5 : Memref sig .tc .vmem S1280x1280 .f32) (harg5 : arg5.IsWhole) (arg6 : Memref sig .tc .vmem S1280x1280 .i8) (harg6 : arg6.IsWhole) (arg7 : Memref sig .tc .vmem S1280x40 .f32) (harg7 : arg7.IsWhole) (arg8 : Memref sig .tc .vmem S1280x1280 .f32) (harg8 : arg8.IsWhole) (hc0 : ¬cond0_0 i) (hc1 : cond0_1 i)
    (x0 : Vec F S2048x1280 .bf16) (x1 : Vec F S2048x1280 .bf16) (x2 : Vec F S1280x1280 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    iexists _, _; isplitr; swap; · iexact H5
    ipureintro; rfl

end Cert.Kernel.Args

end
-- ==== Proof.KernelFrame.lean ====
/- The kernel runs over any floats, leaves its arguments as they were and ends with every semaphore counter at zero. -/
module

public import proofs.«01_k».proof.Proof.KernelRunC
public import Idealize.ShloMosaic.Lib.Claim

@[expose] public section

set_option maxRecDepth 16384

noncomputable section

namespace Cert.Kernel.Args

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The results (windows 3, 4, 5): what their buffers hold is not named here. -/
def forgets0 : Fin 6 → Bool := fun w => w.val == 3 || w.val == 4 || w.val == 5

/-- The proof data on core `c`: the arrays as launched; after each point an input's buffer holds its block, a result's
    buffer something unnamed; the core owes nothing and holds its buffers whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the launch contents. -/
theorem A_eq (c : Dev nD) (w : Fin cfg0.W) : (dats m 0 c).A w = V m c (Pipeline.arrRef spec0 w) := by
  dsimp only [dats]

/-- The body leaves each input's block in its buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's buffer holds its block at every point, fetched there or left from the point before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1200000 in
/-- The body at any point: by the point's place among the 23 steps, one of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 368 := lt_of_lt_of_eq t.isLt (show cfg0.N = 368 from N_0)
  by_cases h0 : t.val % 23 = 0
  · by_cases h1 : t.val % 23 = 22
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨HΦ, Ho, ⟨%d0, H0⟩, ⟨%d1, H1⟩, ⟨%d2, H2⟩, ⟨%d3, H3⟩, ⟨%d4, H4⟩, ⟨%d5, H5⟩⟩
      iapply ((bodyRunA c (grid0.coords t) _ _ _ _ _ _ _ _ _ _ _ _ ((hcond0_0 t).mpr h0) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · by_cases h1 : t.val % 23 = 22
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨HΦ, Ho, ⟨%d0, H0⟩, ⟨%d1, H1⟩, ⟨%d2, H2⟩, ⟨%d3, H3⟩, ⟨%d4, H4⟩, ⟨%d5, H5⟩⟩
      iapply ((bodyRunC c (grid0.coords t) _ _ _ _ _ _ _ _ _ _ _ _ (fun h => h0 ((hcond0_0 t).mp h)) ((hcond0_1 t).mpr h1) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      iintro ⟨HΦ, Ho, ⟨%d0, H0⟩, ⟨%d1, H1⟩, ⟨%d2, H2⟩, ⟨%d3, H3⟩, ⟨%d4, H4⟩, ⟨%d5, H5⟩⟩
      iapply ((bodyRunB c (grid0.coords t) _ _ _ _ _ _ _ _ _ _ _ _ (fun h => h0 ((hcond0_0 t).mp h)) (fun h => h1 ((hcond0_1 t).mp h)) (iblk m c 0 t) (iblk m c 1 t) (iblk m c 2 t)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

/-- The body called at point `t` is the printed body at that point's buffers. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The run: every input array ends as it was, and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c))⟩) (run_main m ρ)

/-- The kernel runs, its arguments end unchanged and every semaphore counter ends at zero, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Args

end
-- ==== Proof.Quantizer.lean ====
/- The row quantiser, once as mathematics over the extended reals (`amax`, `scaleOf`, `codeOf`, `codeWord`,
   `residOf` of a row of 128 values) and once as the vector operations the kernel applies to a block of
   32 rows by 128 lanes (`blkScale`, `blkCode`, `blkResid`), read at an index as the former. -/
module

public import proofs.«01_k».proof.Proof.Gen.KernelIdeal.Skeleton
public import Idealize.ShloMosaic.Lib.Pointwise

@[expose] public section

set_option maxRecDepth 16384

noncomputable section

namespace Cert.Quant

open Idealize.ShloMosaic
open Cert.KernelIdeal Cert.KernelIdeal.Gen

/-- The largest magnitude of a row of 128 values. -/
def amax (row : Fin 128 → EReal) : EReal :=
  Finset.univ.fold max (Ideal.ofBits .f32 0xFF800000#32) fun k => max (row k) (-row k)

/-- The row's scale: its largest magnitude over 127 where that is positive, one where it is not. -/
def scaleOf (row : Fin 128 → EReal) : EReal :=
  Scalar.select (Ideal.cmp .ogt (amax row) 0) (Ideal.div (amax row) (Ideal.ofBits .f32 0x42FE0000#32)) 1

/-- The code of one value of the row, still a number: the quotient by the scale, rounded and clipped. -/
def codeOf (row : Fin 128 → EReal) (x : EReal) : EReal :=
  min (Ideal.ofBits .f32 0x42FE0000#32) (max (Ideal.ofBits .f32 0xC2FE0000#32)
    (Ideal.liftRound Ideal.roundHalfEven (Ideal.div x (scaleOf row))))

/-- The code as a signed byte. -/
def codeWord (row : Fin 128 → EReal) (x : EReal) : BitVec 8 := Ideal.fptosi 8 (codeOf row x)

/-- What the code leaves of the value. -/
def residOf (row : Fin 128 → EReal) (x : EReal) : EReal := x - codeOf row x * scaleOf row

/-! ## The kernel's block operations -/

/-- The scales of a block's 32 rows, as the kernel computes them. -/
def blkScale (A : FVec Ideal S32x128 .f32) : FVec Ideal S32x1 .f32 :=
  have a : FVec Ideal S32x1 .f32 := shapeCast S32x1 (multiReduction .maximumf [1] S32 (absf A) 0xFF800000#32 reduces_S32x128_S32 (.inl rfl) rfl) shapeCasts_S32_S32x1
  select (cmpf .ogt a (broadcast S32x1 (Scalar.ofBits .f32 0x00000000#32)))
    (divf a (broadcast S32x1 (Scalar.ofBits .f32 0x42FE0000#32))) (broadcast S32x1 (Scalar.ofBits .f32 0x3F800000#32))

/-- The clipped quotients of a block. -/
def blkCode (A : FVec Ideal S32x128 .f32) : FVec Ideal S32x128 .f32 :=
  minimumf (broadcast S32x128 (Scalar.ofBits .f32 0x42FE0000#32)) (maximumf (broadcast S32x128 (Scalar.ofBits .f32 0xC2FE0000#32))
    (roundeven (divf A (broadcastTo S32x128 (blkScale A) broadcasts_S32x1_S32x128))))

/-- What the codes leave of a block. -/
def blkResid (A : FVec Ideal S32x128 .f32) : FVec Ideal S32x128 .f32 :=
  subf A (mulf (blkCode A) (broadcastTo S32x128 (blkScale A) broadcasts_S32x1_S32x128))

/-- Row `r` of a block. -/
abbrev rowOf (A : FVec Ideal S32x128 .f32) (r : Fin 32) : Fin 128 → EReal := fun l => A (ix2 r l)

theorem blkScale_apply (A : FVec Ideal S32x128 .f32) (r : Fin 32) (z : Fin 1) : blkScale A (ix2 r z) = scaleOf (rowOf A r) := by
  unfold blkScale scaleOf amax
  pointwise []
  rfl

theorem blkCode_apply (A : FVec Ideal S32x128 .f32) (r : Fin 32) (l : Fin 128) :
    blkCode A (ix2 r l) = codeOf (rowOf A r) (A (ix2 r l)) := by
  unfold blkCode codeOf
  pointwise [blkScale_apply]

theorem blkResid_apply (A : FVec Ideal S32x128 .f32) (r : Fin 32) (l : Fin 128) :
    blkResid A (ix2 r l) = residOf (rowOf A r) (A (ix2 r l)) := by
  unfold blkResid residOf
  pointwise [blkScale_apply, blkCode_apply]

end Cert.Quant

end
-- ==== Proof.Trip.lean ====
/- One trip of the quantising loop: the pieces it stores, as lists of the quantiser's block operations
   (`codePieces`, `residPieces`, `scalePiece`), and what each piece holds at an index, for a block of accumulated
   values `w` given by its row and column numbers. -/
module

public import proofs.«01_k».proof.Proof.Quantizer
public import proofs.«01_k».proof.Proof.Gen.KernelIdeal.Loops
public import proofs.«01_k».proof.Proof.Gen.KernelIdeal.Frame
public import Idealize.ShloMosaic.Lib.Pipeline.ValueKit.Tiles

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Quant

/-! ## The quantiser on a block given by row and column numbers -/

/-- The `b`-th run of 128 values of row `a`. -/
def rowAt (w : ℕ → ℕ → EReal) (a b : ℕ) : Fin 128 → EReal := fun l => w a (128 * b + l.val)

/-- What is left of the value in row `a`, column `q`. -/
def residAt (w : ℕ → ℕ → EReal) (a q : ℕ) : EReal := residOf (rowAt w a (q / 128)) (w a q)

/-- The code of the value in row `a`, column `q`. -/
def codeAt (w : ℕ → ℕ → EReal) (a q : ℕ) : BitVec 8 := codeWord (rowAt w a (q / 128)) (w a q)

/-- The scale of run `b` of row `a`. -/
def scaleAt (w : ℕ → ℕ → EReal) (a b : ℕ) : EReal := scaleOf (rowAt w a b)

/-! ## The pieces one trip stores -/

/-- The select that puts the scales `s` of one run into its lane of the scale rows `v`. -/
def scaleStep (i : grid0.Coords) (u : BitVec 32) (s : FVec Ideal S32x1 .f32) (v : FVec Ideal S32x40 .f32) : FVec Ideal S32x40 .f32 :=
  select (cmpi .eq (iota .tc S32x40 32 [1] iota_S32x40_d1_w32)
      (broadcast S32x40 (Scalar.addi (Scalar.muli (BitVec.ofNat 32 (i 1).val) 10#32) u)))
    (broadcastTo S32x40 (shapeCast S32x1 s shapeCasts_S32x1_S32x1) broadcasts_S32x1_S32x40) v

/-- The code pieces of trip `k`, last store first, of the rows `W`. -/
def codePieces (i : grid0.Coords) (h2 : k0_cond2 i = 1#1) (k : Fin k0_t1_loop.trips) (W : FVec Ideal S32x1280 .f32) :
    List (View.Piece (Elt Ideal) S1280x1280 .i8) :=
   [⟨Rect.unit (k0_off12 k) S32x128.size (k0_off12_inb i k h2), fptosi 8 (blkCode (extractStridedSlice S32x128 ![0, 1152] W slices_S32x1280_o0_1152_S32x128))⟩,
    ⟨Rect.unit (k0_off11 k) S32x128.size (k0_off11_inb i k h2), fptosi 8 (blkCode (extractStridedSlice S32x128 ![0, 1024] W slices_S32x1280_o0_1024_S32x128))⟩,
    ⟨Rect.unit (k0_off10 k) S32x128.size (k0_off10_inb i k h2), fptosi 8 (blkCode (extractStridedSlice S32x128 ![0, 896] W slices_S32x1280_o0_896_S32x128))⟩,
    ⟨Rect.unit (k0_off9 k) S32x128.size (k0_off9_inb i k h2), fptosi 8 (blkCode (extractStridedSlice S32x128 ![0, 768] W slices_S32x1280_o0_768_S32x128))⟩,
    ⟨Rect.unit (k0_off8 k) S32x128.size (k0_off8_inb i k h2), fptosi 8 (blkCode (extractStridedSlice S32x128 ![0, 640] W slices_S32x1280_o0_640_S32x128))⟩,
    ⟨Rect.unit (k0_off7 k) S32x128.size (k0_off7_inb i k h2), fptosi 8 (blkCode (extractStridedSlice S32x128 ![0, 512] W slices_S32x1280_o0_512_S32x128))⟩,
    ⟨Rect.unit (k0_off6 k) S32x128.size (k0_off6_inb i k h2), fptosi 8 (blkCode (extractStridedSlice S32x128 ![0, 384] W slices_S32x1280_o0_384_S32x128))⟩,
    ⟨Rect.unit (k0_off5 k) S32x128.size (k0_off5_inb i k h2), fptosi 8 (blkCode (extractStridedSlice S32x128 ![0, 256] W slices_S32x1280_o0_256_S32x128))⟩,
    ⟨Rect.unit (k0_off4 k) S32x128.size (k0_off4_inb i k h2), fptosi 8 (blkCode (extractStridedSlice S32x128 ![0, 128] W slices_S32x1280_o0_128_S32x128))⟩,
    ⟨Rect.unit (k0_off3 k) S32x128.size (k0_off3_inb i k h2), fptosi 8 (blkCode (extractStridedSlice S32x128 ![0, 0] W slices_S32x1280_o0_0_S32x128))⟩]

/-- The residual pieces of trip `k`, last store first. -/
def residPieces (i : grid0.Coords) (h2 : k0_cond2 i = 1#1) (k : Fin k0_t1_loop.trips) (W : FVec Ideal S32x1280 .f32) :
    List (View.Piece (Elt Ideal) S1280x1280 .f32) :=
   [⟨Rect.unit (k0_off12 k) S32x128.size (k0_off12_inb i k h2), blkResid (extractStridedSlice S32x128 ![0, 1152] W slices_S32x1280_o0_1152_S32x128)⟩,
    ⟨Rect.unit (k0_off11 k) S32x128.size (k0_off11_inb i k h2), blkResid (extractStridedSlice S32x128 ![0, 1024] W slices_S32x1280_o0_1024_S32x128)⟩,
    ⟨Rect.unit (k0_off10 k) S32x128.size (k0_off10_inb i k h2), blkResid (extractStridedSlice S32x128 ![0, 896] W slices_S32x1280_o0_896_S32x128)⟩,
    ⟨Rect.unit (k0_off9 k) S32x128.size (k0_off9_inb i k h2), blkResid (extractStridedSlice S32x128 ![0, 768] W slices_S32x1280_o0_768_S32x128)⟩,
    ⟨Rect.unit (k0_off8 k) S32x128.size (k0_off8_inb i k h2), blkResid (extractStridedSlice S32x128 ![0, 640] W slices_S32x1280_o0_640_S32x128)⟩,
    ⟨Rect.unit (k0_off7 k) S32x128.size (k0_off7_inb i k h2), blkResid (extractStridedSlice S32x128 ![0, 512] W slices_S32x1280_o0_512_S32x128)⟩,
    ⟨Rect.unit (k0_off6 k) S32x128.size (k0_off6_inb i k h2), blkResid (extractStridedSlice S32x128 ![0, 384] W slices_S32x1280_o0_384_S32x128)⟩,
    ⟨Rect.unit (k0_off5 k) S32x128.size (k0_off5_inb i k h2), blkResid (extractStridedSlice S32x128 ![0, 256] W slices_S32x1280_o0_256_S32x128)⟩,
    ⟨Rect.unit (k0_off4 k) S32x128.size (k0_off4_inb i k h2), blkResid (extractStridedSlice S32x128 ![0, 128] W slices_S32x1280_o0_128_S32x128)⟩,
    ⟨Rect.unit (k0_off3 k) S32x128.size (k0_off3_inb i k h2), blkResid (extractStridedSlice S32x128 ![0, 0] W slices_S32x1280_o0_0_S32x128)⟩]

/-- The scale rows of trip `k`: the ten runs' scales selected into the rows `v` found. -/
def scaleRows (i : grid0.Coords) (W : FVec Ideal S32x1280 .f32) (v : FVec Ideal S32x40 .f32) : FVec Ideal S32x40 .f32 :=
  (scaleStep i 9#32 (blkScale (extractStridedSlice S32x128 ![0, 1152] W slices_S32x1280_o0_1152_S32x128))
    (scaleStep i 8#32 (blkScale (extractStridedSlice S32x128 ![0, 1024] W slices_S32x1280_o0_1024_S32x128))
    (scaleStep i 7#32 (blkScale (extractStridedSlice S32x128 ![0, 896] W slices_S32x1280_o0_896_S32x128))
    (scaleStep i 6#32 (blkScale (extractStridedSlice S32x128 ![0, 768] W slices_S32x1280_o0_768_S32x128))
    (scaleStep i 5#32 (blkScale (extractStridedSlice S32x128 ![0, 640] W slices_S32x1280_o0_640_S32x128))
    (scaleStep i 4#32 (blkScale (extractStridedSlice S32x128 ![0, 512] W slices_S32x1280_o0_512_S32x128))
    (scaleStep i 3#32 (blkScale (extractStridedSlice S32x128 ![0, 384] W slices_S32x1280_o0_384_S32x128))
    (scaleStep i 2#32 (blkScale (extractStridedSlice S32x128 ![0, 256] W slices_S32x1280_o0_256_S32x128))
    (scaleStep i 1#32 (blkScale (extractStridedSlice S32x128 ![0, 128] W slices_S32x1280_o0_128_S32x128))
    (scaleStep i 0#32 (blkScale (extractStridedSlice S32x128 ![0, 0] W slices_S32x1280_o0_0_S32x128))
    v))))))))))

/-- The one piece of scale rows. -/
def scalePiece (i : grid0.Coords) (h2 : k0_cond2 i = 1#1) (k : Fin k0_t1_loop.trips) (W : FVec Ideal S32x1280 .f32)
    (v : FVec Ideal S32x40 .f32) : List (View.Piece (Elt Ideal) S1280x40 .f32) :=
  [⟨Rect.unit (k0_off2 k) S32x40.size (k0_off2_inb i k h2), scaleRows i W v⟩]

/-- The generated trip's pieces are these lists, at the rows it loads. -/
theorem trip_pieces (𝒱 : Variants) (c : Dev nD) (bd : Option 𝒱.V) (i : grid0.Coords) (arg3 : Memref sig .tc .vmem S2048x1280 .bf16) (harg3 : arg3.IsWhole)
    (arg4 : Memref sig .tc .vmem S2048x1280 .bf16) (harg4 : arg4.IsWhole) (arg5 : Memref sig .tc .vmem S1280x1280 .f32) (harg5 : arg5.IsWhole)
    (arg6 : Memref sig .tc .vmem S1280x1280 .i8) (harg6 : arg6.IsWhole) (arg7 : Memref sig .tc .vmem S1280x40 .f32) (harg7 : arg7.IsWhole)
    (arg8 : Memref sig .tc .vmem S1280x1280 .f32) (harg8 : arg8.IsWhole)
    (h2 : k0_cond2 i = 1#1) (X5 : BufTy.Contents (Elt Ideal) arg5.view.ty) (k : Fin k0_t1_loop.trips)
    (f6 : BufTy.Contents (Elt Ideal) arg6.view.ty) (f7 : BufTy.Contents (Elt Ideal) arg7.view.ty) (f8 : BufTy.Contents (Elt Ideal) arg8.view.ty) :
    tripL_k0_t1 𝒱 c bd i arg3 harg3 arg4 harg4 arg5 harg5 arg6 harg6 arg7 harg7 arg8 harg8 (BitVec.ofNat 32 (i 1).val) h2 X5 k f6 f7 f8
      = (codePieces i h2 k (addf (View.ld (arg8.view.read (Elt Ideal) f8) (Rect.unit (k0_off1 k) S32x1280.size (k0_off1_inb i k h2)))
            (View.ld (arg5.view.read (Elt Ideal) X5) (Rect.unit (k0_off1 k) S32x1280.size (k0_off1_inb i k h2)))),
         scalePiece i h2 k (addf (View.ld (arg8.view.read (Elt Ideal) f8) (Rect.unit (k0_off1 k) S32x1280.size (k0_off1_inb i k h2)))
            (View.ld (arg5.view.read (Elt Ideal) X5) (Rect.unit (k0_off1 k) S32x1280.size (k0_off1_inb i k h2))))
            (View.ld (arg7.view.read (Elt Ideal) f7) (Rect.unit (k0_off2 k) S32x40.size (k0_off2_inb i k h2))),
         residPieces i h2 k (addf (View.ld (arg8.view.read (Elt Ideal) f8) (Rect.unit (k0_off1 k) S32x1280.size (k0_off1_inb i k h2)))
            (View.ld (arg5.view.read (Elt Ideal) X5) (Rect.unit (k0_off1 k) S32x1280.size (k0_off1_inb i k h2))))) := by
  have e6 : ∀ a b, k0_pay6 (F := Ideal) a b = addf a b := fun a b => by unfold k0_pay6; rw [shapeCast_self]
  unfold tripL_k0_t1 trip_k0_t1
  dsimp only
  refine Prod.ext ?_ (Prod.ext ?_ ?_)
  · rw [← e6]; rfl
  · rw [← e6]
    unfold scalePiece scaleRows
    rw [← shapeCast_self (View.ld (arg7.view.read (Elt Ideal) f7) (Rect.unit (k0_off2 k) S32x40.size (k0_off2_inb i k h2))) shapeCasts_S32x40_S32x40]
    rfl
  · rw [← e6]; rfl

end Cert.KernelIdeal.Value

end
-- ==== Proof.TripRead.lean ====
/- What one trip's pieces hold at an index, and what a memref holds after it: the rows `32k … 32k+31` become the
   quantiser's codes, residuals and scales, every other row stays. -/
module

public import proofs.«01_k».proof.Proof.Trip

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Quant

/-! ## Stores that agree with one function -/

section Writes

variable {sig : RefSig} {κ : Kind} {sp : Space} {e : EltTy} {Val : EltTy → Type} {s : Shape}
  (v : View sig κ sp s e) (f : v.ty.Contents Val)

/-- Where all pieces of a list hold what `G` says at the element they cover, an element some piece covers
    reads as `G`. -/
theorem read_writes_of_agree (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_of_agree G y L (fun q hq => hP q (List.mem_cons_of_mem _ hq)) ?_
      obtain ⟨q, hq, hyq⟩ := h
      rcases List.mem_cons.mp hq with rfl | hq'
      · exact absurd hyq hy
      · exact ⟨q, hq', hyq⟩

/-- An element no piece covers reads as before. -/
theorem read_writes_of_outside (y : s.Idx) :
    ∀ L : List (View.Piece Val s e), (∀ p ∈ L, y ∉ p.1.set) → v.read Val (v.writes Val f L) y = v.read Val f y
  | [], _ => rfl
  | p :: L, h => by
    have hy' : y ∉ Finset.univ.map p.1.emb := by rw [Rect.map_emb_univ]; exact h p List.mem_cons_self
    rw [View.writes_cons, View.read_slice_write_of_not_mem p.1 _ _ _ hy']
    exact read_writes_of_outside y L fun q hq => h q (List.mem_cons_of_mem _ hq)

end Writes

/-! ## The rows of one trip -/

section Trip

variable {i : grid0.Coords} (h2 : k0_cond2 i = 1#1) (k : Fin k0_t1_loop.trips) (W : FVec Ideal S32x1280 .f32)
  (w : ℕ → ℕ → EReal) (hW : ∀ (r : Fin 32) (q : Fin 1280), W (ix2 r q) = w (32 * k.val + r.val) q.val)

include hW

/-- A run of 128 columns cut from the rows, at an index. -/
theorem slice_at (o : ℕ) (hs : S32x1280.Slices ![0, o] S32x128) (r : Fin 32) (l : Fin 128) :
    extractStridedSlice S32x128 ![0, o] W hs (ix2 r l) = w (32 * k.val + r.val) (o + l.val) := by
  have ho : o + l.val < 1280 := by
    have := hs.2 1; have hl := l.isLt
    change o + 128 ≤ 1280 at this; omega
  rw [extractStridedSlice_apply ![0, o] W hs (ix2 r l) (ix2 r ⟨o + l.val, ho⟩)
    (fun a => match a with | ⟨0, _⟩ => (Nat.zero_add _).symm | ⟨1, _⟩ => rfl), hW]

theorem slice_row (b : ℕ) (hs : S32x1280.Slices ![0, 128 * b] S32x128) (r : Fin 32) :
    rowOf (extractStridedSlice S32x128 ![0, 128 * b] W hs) r = rowAt w (32 * k.val + r.val) b := by
  funext l; exact slice_at k W w hW _ hs r l

theorem resid_at (b : ℕ) (hs : S32x1280.Slices ![0, 128 * b] S32x128) (r : Fin 32) (l : Fin 128) :
    blkResid (extractStridedSlice S32x128 ![0, 128 * b] W hs) (ix2 r l) = residAt w (32 * k.val + r.val) (128 * b + l.val) := by
  have : (128 * b + l.val) / 128 = b := by have := l.isLt; omega
  rw [blkResid_apply, slice_row k W w hW b hs r, slice_at k W w hW _ hs r l, residAt, this]

theorem code_at (b : ℕ) (hs : S32x1280.Slices ![0, 128 * b] S32x128) (r : Fin 32) (l : Fin 128) :
    fptosi 8 (blkCode (extractStridedSlice S32x128 ![0, 128 * b] W hs)) (ix2 r l) = codeAt w (32 * k.val + r.val) (128 * b + l.val) := by
  have : (128 * b + l.val) / 128 = b := by have := l.isLt; omega
  show Ideal.fptosi 8 (blkCode _ (ix2 r l)) = _
  rw [blkCode_apply, slice_row k W w hW b hs r, slice_at k W w hW _ hs r l, codeAt, codeWord, this]

theorem scale_at (b : ℕ) (hs : S32x1280.Slices ![0, 128 * b] S32x128) (r : Fin 32) (z : Fin 1) :
    blkScale (extractStridedSlice S32x128 ![0, 128 * b] W hs) (ix2 r z) = scaleAt w (32 * k.val + r.val) b := by
  rw [blkScale_apply, slice_row k W w hW b hs r, scaleAt]

/-- A residual piece holds the residuals of the elements it covers. -/
theorem resid_piece (b : ℕ) (hs : S32x1280.Slices ![0, 128 * b] S32x128) (off : Fin 2 → ℕ) (ho : off = ![32 * k.val, 128 * b])
    (inb) (x : S32x128.Idx) :
    blkResid (extractStridedSlice S32x128 ![0, 128 * b] W hs) x
      = residAt w (((Rect.unit (s := S1280x1280) off S32x128.size inb).emb x) 0).val (((Rect.unit (s := S1280x1280) off S32x128.size inb).emb x) 1).val := by
  subst ho
  obtain ⟨r, l, rfl⟩ : ∃ r l, x = ix2 r l := ⟨x 0, x 1, eq_ix2 x⟩
  rw [resid_at k W w hW b hs r l]
  exact (congrArg₂ (residAt w) (Rect.idx_unit_val _ _ inb (ix2 r l) 0) (Rect.idx_unit_val _ _ inb (ix2 r l) 1)).symm

/-- A code piece holds the codes of the elements it covers. -/
theorem code_piece (b : ℕ) (hs : S32x1280.Slices ![0, 128 * b] S32x128) (off : Fin 2 → ℕ) (ho : off = ![32 * k.val, 128 * b])
    (inb) (x : S32x128.Idx) :
    fptosi 8 (blkCode (extractStridedSlice S32x128 ![0, 128 * b] W hs)) x
      = codeAt w (((Rect.unit (s := S1280x1280) off S32x128.size inb).emb x) 0).val (((Rect.unit (s := S1280x1280) off S32x128.size inb).emb x) 1).val := by
  subst ho
  obtain ⟨r, l, rfl⟩ : ∃ r l, x = ix2 r l := ⟨x 0, x 1, eq_ix2 x⟩
  rw [code_at k W w hW b hs r l]
  exact (congrArg₂ (codeAt w) (Rect.idx_unit_val _ _ inb (ix2 r l) 0) (Rect.idx_unit_val _ _ inb (ix2 r l) 1)).symm

omit hW in
/-- The elements one piece covers. -/
theorem mem_piece (b : ℕ) (off : Fin 2 → ℕ) (ho : off = ![32 * k.val, 128 * b]) (inb) (y : S1280x1280.Idx) :
    y ∈ (Rect.unit (s := S1280x1280) off S32x128.size inb).set
      ↔ (32 * k.val ≤ (y 0).val ∧ (y 0).val < 32 * k.val + 32) ∧ (y 1).val / 128 = b := by
  subst ho
  rw [Rect.mem_set_unit, Fin.forall_fin_two]
  show (32 * k.val ≤ (y 0).val ∧ (y 0).val < 32 * k.val + 32) ∧ (128 * b ≤ (y 1).val ∧ (y 1).val < 128 * b + 128) ↔ _
  omega

theorem residPieces_agree : ∀ p ∈ residPieces i h2 k W, ∀ x, p.2 x = residAt w ((p.1.emb x) 0).val ((p.1.emb x) 1).val := by
  intro p hp
  simp only [residPieces, List.mem_cons, List.not_mem_nil, or_false] at hp
  rcases hp with rfl | rfl | rfl | rfl | rfl | rfl | rfl | rfl | rfl | rfl
  · exact fun x => (resid_piece k W w hW 9 slices_S32x1280_o0_1152_S32x128 _ (k0_off12_eq k) (k0_off12_inb i k h2) x)
  · exact fun x => (resid_piece k W w hW 8 slices_S32x1280_o0_1024_S32x128 _ (k0_off11_eq k) (k0_off11_inb i k h2) x)
  · exact fun x => (resid_piece k W w hW 7 slices_S32x1280_o0_896_S32x128 _ (k0_off10_eq k) (k0_off10_inb i k h2) x)
  · exact fun x => (resid_piece k W w hW 6 slices_S32x1280_o0_768_S32x128 _ (k0_off9_eq k) (k0_off9_inb i k h2) x)
  · exact fun x => (resid_piece k W w hW 5 slices_S32x1280_o0_640_S32x128 _ (k0_off8_eq k) (k0_off8_inb i k h2) x)
  · exact fun x => (resid_piece k W w hW 4 slices_S32x1280_o0_512_S32x128 _ (k0_off7_eq k) (k0_off7_inb i k h2) x)
  · exact fun x => (resid_piece k W w hW 3 slices_S32x1280_o0_384_S32x128 _ (k0_off6_eq k) (k0_off6_inb i k h2) x)
  · exact fun x => (resid_piece k W w hW 2 slices_S32x1280_o0_256_S32x128 _ (k0_off5_eq k) (k0_off5_inb i k h2) x)
  · exact fun x => (resid_piece k W w hW 1 slices_S32x1280_o0_128_S32x128 _ (k0_off4_eq k) (k0_off4_inb i k h2) x)
  · exact fun x => (resid_piece k W w hW 0 slices_S32x1280_o0_0_S32x128 _ (k0_off3_eq k) (k0_off3_inb i k h2) x)

omit hW in
theorem residPieces_rows (y : S1280x1280.Idx) : ∀ p ∈ residPieces i h2 k W, y ∈ p.1.set → 32 * k.val ≤ (y 0).val ∧ (y 0).val < 32 * k.val + 32 := by
  intro p hp
  simp only [residPieces, List.mem_cons, List.not_mem_nil, or_false] at hp
  rcases hp with rfl | rfl | rfl | rfl | rfl | rfl | rfl | rfl | rfl | rfl
  · exact fun h => ((mem_piece k 9 _ (k0_off12_eq k) (k0_off12_inb i k h2) y).mp h).1
  · exact fun h => ((mem_piece k 8 _ (k0_off11_eq k) (k0_off11_inb i k h2) y).mp h).1
  · exact fun h => ((mem_piece k 7 _ (k0_off10_eq k) (k0_off10_inb i k h2) y).mp h).1
  · exact fun h => ((mem_piece k 6 _ (k0_off9_eq k) (k0_off9_inb i k h2) y).mp h).1
  · exact fun h => ((mem_piece k 5 _ (k0_off8_eq k) (k0_off8_inb i k h2) y).mp h).1
  · exact fun h => ((mem_piece k 4 _ (k0_off7_eq k) (k0_off7_inb i k h2) y).mp h).1
  · exact fun h => ((mem_piece k 3 _ (k0_off6_eq k) (k0_off6_inb i k h2) y).mp h).1
  · exact fun h => ((mem_piece k 2 _ (k0_off5_eq k) (k0_off5_inb i k h2) y).mp h).1
  · exact fun h => ((mem_piece k 1 _ (k0_off4_eq k) (k0_off4_inb i k h2) y).mp h).1
  · exact fun h => ((mem_piece k 0 _ (k0_off3_eq k) (k0_off3_inb i k h2) y).mp h).1

omit hW in
theorem residPieces_cover (y : S1280x1280.Idx) (hy : 32 * k.val ≤ (y 0).val ∧ (y 0).val < 32 * k.val + 32) :
    ∃ p ∈ residPieces i h2 k W, y ∈ p.1.set := by
  by_cases c0 : (y 1).val / 128 = 0
  · exact ⟨_, .tail _ (.tail _ (.tail _ (.tail _ (.tail _ (.tail _ (.tail _ (.tail _ (.tail _ (.head _))))))))), (mem_piece k 0 _ (k0_off3_eq k) (k0_off3_inb i k h2) y).mpr ⟨hy, c0⟩⟩
  by_cases c1 : (y 1).val / 128 = 1
  · exact ⟨_, .tail _ (.tail _ (.tail _ (.tail _ (.tail _ (.tail _ (.tail _ (.tail _ (.head _)))))))), (mem_piece k 1 _ (k0_off4_eq k) (k0_off4_inb i k h2) y).mpr ⟨hy, c1⟩⟩
  by_cases c2 : (y 1).val / 128 = 2
  · exact ⟨_, .tail _ (.tail _ (.tail _ (.tail _ (.tail _ (.tail _ (.tail _ (.head _))))))), (mem_piece k 2 _ (k0_off5_eq k) (k0_off5_inb i k h2) y).mpr ⟨hy, c2⟩⟩
  by_cases c3 : (y 1).val / 128 = 3
  · exact ⟨_, .tail _ (.tail _ (.tail _ (.tail _ (.tail _ (.tail _ (.head _)))))), (mem_piece k 3 _ (k0_off6_eq k) (k0_off6_inb i k h2) y).mpr ⟨hy, c3⟩⟩
  by_cases c4 : (y 1).val / 128 = 4
  · exact ⟨_, .tail _ (.tail _ (.tail _ (.tail _ (.tail _ (.head _))))), (mem_piece k 4 _ (k0_off7_eq k) (k0_off7_inb i k h2) y).mpr ⟨hy, c4⟩⟩
  by_cases c5 : (y 1).val / 128 = 5
  · exact ⟨_, .tail _ (.tail _ (.tail _ (.tail _ (.head _)))), (mem_piece k 5 _ (k0_off8_eq k) (k0_off8_inb i k h2) y).mpr ⟨hy, c5⟩⟩
  by_cases c6 : (y 1).val / 128 = 6
  · exact ⟨_, .tail _ (.tail _ (.tail _ (.head _))), (mem_piece k 6 _ (k0_off9_eq k) (k0_off9_inb i k h2) y).mpr ⟨hy, c6⟩⟩
  by_cases c7 : (y 1).val / 128 = 7
  · exact ⟨_, .tail _ (.tail _ (.head _)), (mem_piece k 7 _ (k0_off10_eq k) (k0_off10_inb i k h2) y).mpr ⟨hy, c7⟩⟩
  by_cases c8 : (y 1).val / 128 = 8
  · exact ⟨_, .tail _ (.head _), (mem_piece k 8 _ (k0_off11_eq k) (k0_off11_inb i k h2) y).mpr ⟨hy, c8⟩⟩
  by_cases c9 : (y 1).val / 128 = 9
  · exact ⟨_, .head _, (mem_piece k 9 _ (k0_off12_eq k) (k0_off12_inb i k h2) y).mpr ⟨hy, c9⟩⟩
  have := (y 1).isLt
  change (y 1).val < 1280 at this
  omega

theorem codePieces_agree : ∀ p ∈ codePieces i h2 k W, ∀ x, p.2 x = codeAt w ((p.1.emb x) 0).val ((p.1.emb x) 1).val := by
  intro p hp
  simp only [codePieces, List.mem_cons, List.not_mem_nil, or_false] at hp
  rcases hp with rfl | rfl | rfl | rfl | rfl | rfl | rfl | rfl | rfl | rfl
  · exact fun x => (code_piece k W w hW 9 slices_S32x1280_o0_1152_S32x128 _ (k0_off12_eq k) (k0_off12_inb i k h2) x)
  · exact fun x => (code_piece k W w hW 8 slices_S32x1280_o0_1024_S32x128 _ (k0_off11_eq k) (k0_off11_inb i k h2) x)
  · exact fun x => (code_piece k W w hW 7 slices_S32x1280_o0_896_S32x128 _ (k0_off10_eq k) (k0_off10_inb i k h2) x)
  · exact fun x => (code_piece k W w hW 6 slices_S32x1280_o0_768_S32x128 _ (k0_off9_eq k) (k0_off9_inb i k h2) x)
  · exact fun x => (code_piece k W w hW 5 slices_S32x1280_o0_640_S32x128 _ (k0_off8_eq k) (k0_off8_inb i k h2) x)
  · exact fun x => (code_piece k W w hW 4 slices_S32x1280_o0_512_S32x128 _ (k0_off7_eq k) (k0_off7_inb i k h2) x)
  · exact fun x => (code_piece k W w hW 3 slices_S32x1280_o0_384_S32x128 _ (k0_off6_eq k) (k0_off6_inb i k h2) x)
  · exact fun x => (code_piece k W w hW 2 slices_S32x1280_o0_256_S32x128 _ (k0_off5_eq k) (k0_off5_inb i k h2) x)
  · exact fun x => (code_piece k W w hW 1 slices_S32x1280_o0_128_S32x128 _ (k0_off4_eq k) (k0_off4_inb i k h2) x)
  · exact fun x => (code_piece k W w hW 0 slices_S32x1280_o0_0_S32x128 _ (k0_off3_eq k) (k0_off3_inb i k h2) x)

omit hW in
theorem codePieces_rows (y : S1280x1280.Idx) : ∀ p ∈ codePieces i h2 k W, y ∈ p.1.set → 32 * k.val ≤ (y 0).val ∧ (y 0).val < 32 * k.val + 32 := by
  intro p hp
  simp only [codePieces, List.mem_cons, List.not_mem_nil, or_false] at hp
  rcases hp with rfl | rfl | rfl | rfl | rfl | rfl | rfl | rfl | rfl | rfl
  · exact fun h => ((mem_piece k 9 _ (k0_off12_eq k) (k0_off12_inb i k h2) y).mp h).1
  · exact fun h => ((mem_piece k 8 _ (k0_off11_eq k) (k0_off11_inb i k h2) y).mp h).1
  · exact fun h => ((mem_piece k 7 _ (k0_off10_eq k) (k0_off10_inb i k h2) y).mp h).1
  · exact fun h => ((mem_piece k 6 _ (k0_off9_eq k) (k0_off9_inb i k h2) y).mp h).1
  · exact fun h => ((mem_piece k 5 _ (k0_off8_eq k) (k0_off8_inb i k h2) y).mp h).1
  · exact fun h => ((mem_piece k 4 _ (k0_off7_eq k) (k0_off7_inb i k h2) y).mp h).1
  · exact fun h => ((mem_piece k 3 _ (k0_off6_eq k) (k0_off6_inb i k h2) y).mp h).1
  · exact fun h => ((mem_piece k 2 _ (k0_off5_eq k) (k0_off5_inb i k h2) y).mp h).1
  · exact fun h => ((mem_piece k 1 _ (k0_off4_eq k) (k0_off4_inb i k h2) y).mp h).1
  · exact fun h => ((mem_piece k 0 _ (k0_off3_eq k) (k0_off3_inb i k h2) y).mp h).1

omit hW in
theorem codePieces_cover (y : S1280x1280.Idx) (hy : 32 * k.val ≤ (y 0).val ∧ (y 0).val < 32 * k.val + 32) :
    ∃ p ∈ codePieces i h2 k W, y ∈ p.1.set := by
  by_cases c0 : (y 1).val / 128 = 0
  · exact ⟨_, .tail _ (.tail _ (.tail _ (.tail _ (.tail _ (.tail _ (.tail _ (.tail _ (.tail _ (.head _))))))))), (mem_piece k 0 _ (k0_off3_eq k) (k0_off3_inb i k h2) y).mpr ⟨hy, c0⟩⟩
  by_cases c1 : (y 1).val / 128 = 1
  · exact ⟨_, .tail _ (.tail _ (.tail _ (.tail _ (.tail _ (.tail _ (.tail _ (.tail _ (.head _)))))))), (mem_piece k 1 _ (k0_off4_eq k) (k0_off4_inb i k h2) y).mpr ⟨hy, c1⟩⟩
  by_cases c2 : (y 1).val / 128 = 2
  · exact ⟨_, .tail _ (.tail _ (.tail _ (.tail _ (.tail _ (.tail _ (.tail _ (.head _))))))), (mem_piece k 2 _ (k0_off5_eq k) (k0_off5_inb i k h2) y).mpr ⟨hy, c2⟩⟩
  by_cases c3 : (y 1).val / 128 = 3
  · exact ⟨_, .tail _ (.tail _ (.tail _ (.tail _ (.tail _ (.tail _ (.head _)))))), (mem_piece k 3 _ (k0_off6_eq k) (k0_off6_inb i k h2) y).mpr ⟨hy, c3⟩⟩
  by_cases c4 : (y 1).val / 128 = 4
  · exact ⟨_, .tail _ (.tail _ (.tail _ (.tail _ (.tail _ (.head _))))), (mem_piece k 4 _ (k0_off7_eq k) (k0_off7_inb i k h2) y).mpr ⟨hy, c4⟩⟩
  by_cases c5 : (y 1).val / 128 = 5
  · exact ⟨_, .tail _ (.tail _ (.tail _ (.tail _ (.head _)))), (mem_piece k 5 _ (k0_off8_eq k) (k0_off8_inb i k h2) y).mpr ⟨hy, c5⟩⟩
  by_cases c6 : (y 1).val / 128 = 6
  · exact ⟨_, .tail _ (.tail _ (.tail _ (.head _))), (mem_piece k 6 _ (k0_off9_eq k) (k0_off9_inb i k h2) y).mpr ⟨hy, c6⟩⟩
  by_cases c7 : (y 1).val / 128 = 7
  · exact ⟨_, .tail _ (.tail _ (.head _)), (mem_piece k 7 _ (k0_off10_eq k) (k0_off10_inb i k h2) y).mpr ⟨hy, c7⟩⟩
  by_cases c8 : (y 1).val / 128 = 8
  · exact ⟨_, .tail _ (.head _), (mem_piece k 8 _ (k0_off11_eq k) (k0_off11_inb i k h2) y).mpr ⟨hy, c8⟩⟩
  by_cases c9 : (y 1).val / 128 = 9
  · exact ⟨_, .head _, (mem_piece k 9 _ (k0_off12_eq k) (k0_off12_inb i k h2) y).mpr ⟨hy, c9⟩⟩
  have := (y 1).isLt
  change (y 1).val < 1280 at this
  omega

/-! ## The scale rows -/

omit hW in
theorem lane_eq (j : ℕ) (h1 : j < 4) (u : ℕ) (hu : u < 10) (q : Fin 40) :
    (BitVec.ofNat 32 q.val = Scalar.addi (Scalar.muli (BitVec.ofNat 32 j) 10#32) (BitVec.ofNat 32 u)) ↔ q.val = 10 * j + u := by
  have hq := q.isLt
  rw [← BitVec.toNat_inj]
  simp [Scalar.addi, Scalar.muli, IntOp.addi, IntOp.muli]
  omega

omit hW in
theorem scaleStep_at (u : ℕ) (hu : u < 10) (s : FVec Ideal S32x1 .f32) (v : FVec Ideal S32x40 .f32) (r : Fin 32) (q : Fin 40) :
    scaleStep i (BitVec.ofNat 32 u) s v (ix2 r q) = if q.val = 10 * (i 1).val + u then s (ix2 r 0) else v (ix2 r q) := by
  unfold scaleStep
  rw [shapeCast_self]
  pointwise
  have hl := lane_eq (i 1).val (i 1).isLt u hu q
  by_cases hq : q.val = 10 * (i 1).val + u
  · rw [if_pos hq, hl.mpr hq]; simp [Scalar.select, IntOp.cmpi]
  · rw [if_neg hq]
    have hne := fun h => hq (hl.mp h)
    refine if_neg ?_
    show ¬ BitVec.ofBool (_ == _) = 1#1
    rw [beq_eq_false_iff_ne.mpr hne]; decide

/-- The scale rows at an index: the ten lanes of the trip's column of blocks hold the scales, the others what was found. -/
theorem scaleRows_at (v : FVec Ideal S32x40 .f32) (r : Fin 32) (q : Fin 40) :
    scaleRows i W v (ix2 r q) = if 10 * (i 1).val ≤ q.val ∧ q.val < 10 * (i 1).val + 10
      then scaleAt w (32 * k.val + r.val) (q.val - 10 * (i 1).val) else v (ix2 r q) := by
  unfold scaleRows
  rw [scaleStep_at 9 (by decide), scale_at k W w hW 9 slices_S32x1280_o0_1152_S32x128 r 0]
  rw [scaleStep_at 8 (by decide), scale_at k W w hW 8 slices_S32x1280_o0_1024_S32x128 r 0]
  rw [scaleStep_at 7 (by decide), scale_at k W w hW 7 slices_S32x1280_o0_896_S32x128 r 0]
  rw [scaleStep_at 6 (by decide), scale_at k W w hW 6 slices_S32x1280_o0_768_S32x128 r 0]
  rw [scaleStep_at 5 (by decide), scale_at k W w hW 5 slices_S32x1280_o0_640_S32x128 r 0]
  rw [scaleStep_at 4 (by decide), scale_at k W w hW 4 slices_S32x1280_o0_512_S32x128 r 0]
  rw [scaleStep_at 3 (by decide), scale_at k W w hW 3 slices_S32x1280_o0_384_S32x128 r 0]
  rw [scaleStep_at 2 (by decide), scale_at k W w hW 2 slices_S32x1280_o0_256_S32x128 r 0]
  rw [scaleStep_at 1 (by decide), scale_at k W w hW 1 slices_S32x1280_o0_128_S32x128 r 0]
  rw [scaleStep_at 0 (by decide), scale_at k W w hW 0 slices_S32x1280_o0_0_S32x128 r 0]
  split_ifs <;> first | rfl | (exfalso; omega) | (congr 1; omega)

end Trip

end Cert.KernelIdeal.Value

end
-- ==== Proof.Loop.lean ====
/- What the three written blocks hold after the quantising loop's 40 trips: every row quantised. -/
module

public import proofs.«01_k».proof.Proof.TripRead

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Quant

/-- Column block `j`'s lanes of the scale rows: the new scales where the lane is one of its ten, what was found elsewhere. -/
def scaleLanes (w : ℕ → ℕ → EReal) (j : ℕ) (v : FVec Ideal S1280x40 .f32) : FVec Ideal S1280x40 .f32 := fun y =>
  if 10 * j ≤ (y 1).val ∧ (y 1).val < 10 * j + 10 then scaleAt w (y 0).val ((y 1).val - 10 * j) else v y

section Trip

variable {i : grid0.Coords} (h2 : k0_cond2 i = 1#1) (k : Fin k0_t1_loop.trips) (W : FVec Ideal S32x1280 .f32)
  (w : ℕ → ℕ → EReal) (hW : ∀ (r : Fin 32) (q : Fin 1280), W (ix2 r q) = w (32 * k.val + r.val) q.val)

include hW

theorem read_residPieces {sp : Space} (v : View sig .tc sp S1280x1280 .f32) (f : v.ty.Contents (Elt Ideal)) (y : S1280x1280.Idx) :
    v.read (Elt Ideal) (v.writes (Elt Ideal) f (residPieces i h2 k W)) y
      = if 32 * k.val ≤ (y 0).val ∧ (y 0).val < 32 * k.val + 32 then residAt w (y 0).val (y 1).val else v.read (Elt Ideal) f y := by
  split_ifs with h
  · exact read_writes_of_agree v f (fun y => residAt w (y 0).val (y 1).val) y _ (residPieces_agree h2 k W w hW) (residPieces_cover h2 k W y h)
  · exact read_writes_of_outside v f y _ fun p hp hy => h (residPieces_rows h2 k W y p hp hy)

theorem read_codePieces {sp : Space} (v : View sig .tc sp S1280x1280 .i8) (f : v.ty.Contents (Elt Ideal)) (y : S1280x1280.Idx) :
    v.read (Elt Ideal) (v.writes (Elt Ideal) f (codePieces i h2 k W)) y
      = if 32 * k.val ≤ (y 0).val ∧ (y 0).val < 32 * k.val + 32 then codeAt w (y 0).val (y 1).val else v.read (Elt Ideal) f y := by
  split_ifs with h
  · exact read_writes_of_agree v f (fun y => codeAt w (y 0).val (y 1).val) y _ (codePieces_agree h2 k W w hW) (codePieces_cover h2 k W y h)
  · exact read_writes_of_outside v f y _ fun p hp hy => h (codePieces_rows h2 k W y p hp hy)

omit hW in
theorem mem_scale (off : Fin 2 → ℕ) (ho : off = ![32 * k.val, 0]) (inb) (y : S1280x40.Idx) :
    y ∈ (Rect.unit (s := S1280x40) off S32x40.size inb).set ↔ (32 * k.val ≤ (y 0).val ∧ (y 0).val < 32 * k.val + 32) := by
  subst ho
  rw [Rect.mem_set_unit, Fin.forall_fin_two]
  show (32 * k.val ≤ (y 0).val ∧ (y 0).val < 32 * k.val + 32) ∧ (0 ≤ (y 1).val ∧ (y 1).val < 0 + 40) ↔ _
  have : (y 1).val < 40 := (y 1).isLt
  omega

theorem read_scalePiece {sp : Space} (v : View sig .tc sp S1280x40 .f32) (f : v.ty.Contents (Elt Ideal)) (y : S1280x40.Idx) :
    v.read (Elt Ideal) (v.writes (Elt Ideal) f (scalePiece i h2 k W
        (View.ld (v.read (Elt Ideal) f) (Rect.unit (k0_off2 k) S32x40.size (k0_off2_inb i k h2))))) y
      = if 32 * k.val ≤ (y 0).val ∧ (y 0).val < 32 * k.val + 32 then scaleLanes w (i 1).val (v.read (Elt Ideal) f) y else v.read (Elt Ideal) f y := by
  split_ifs with h
  · refine read_writes_of_agree v f (fun y => scaleLanes w (i 1).val (v.read (Elt Ideal) f) y) y _ ?_
      ⟨_, .head _, (mem_scale k _ (k0_off2_eq k) (k0_off2_inb i k h2) y).mpr h⟩
    intro p hp
    simp only [scalePiece, List.mem_cons, List.not_mem_nil, or_false] at hp
    subst hp
    intro x
    have e0 : (((Rect.unit (s := S1280x40) (k0_off2 k) S32x40.size (k0_off2_inb i k h2)).emb x) 0).val = 32 * k.val + (x 0).val :=
      (Rect.idx_unit_val (s := S1280x40) (k0_off2 k) S32x40.size (k0_off2_inb i k h2) x 0).trans
        (congrArg (· + (x 0).val) (congrFun (k0_off2_eq k) 0))
    have e1 : (((Rect.unit (s := S1280x40) (k0_off2 k) S32x40.size (k0_off2_inb i k h2)).emb x) 1).val = (x 1).val :=
      (Rect.idx_unit_val (s := S1280x40) (k0_off2 k) S32x40.size (k0_off2_inb i k h2) x 1).trans
        ((congrArg (· + (x 1).val) (congrFun (k0_off2_eq k) 1)).trans (Nat.zero_add _))
    show scaleRows i W _ x = scaleLanes _ _ _ ((Rect.unit (s := S1280x40) (k0_off2 k) S32x40.size (k0_off2_inb i k h2)).emb x)
    unfold scaleLanes
    rw [e0, e1]
    have hx : x = ix2 (x 0) (x 1) := eq_ix2 x
    rw [congrArg (scaleRows i W _) hx]
    refine (scaleRows_at k W w hW _ (x 0) (x 1)).trans ?_
    exact if_congr Iff.rfl rfl (congrArg (View.ld (v.read (Elt Ideal) f) (Rect.unit (s := S1280x40) (k0_off2 k) S32x40.size (k0_off2_inb i k h2))) hx.symm)
  · refine read_writes_of_outside v f y _ fun p hp hy => h ?_
    simp only [scalePiece, List.mem_cons, List.not_mem_nil, or_false] at hp
    subst hp
    exact (mem_scale k _ (k0_off2_eq k) (k0_off2_inb i k h2) y).mp hy

end Trip

/-- Row `r`, column `q` of the rows a trip loads is row `32k + r`, column `q` of the block. -/
theorem emb_rows (k : Fin k0_t1_loop.trips) (off : Fin 2 → ℕ) (ho : off = ![32 * k.val, 0]) (inb) (r : Fin 32) (q : Fin 1280)
    (hr : 32 * k.val + r.val < 1280) :
    (Rect.unit (s := S1280x1280) off S32x1280.size inb).emb (ix2 r q) = ix2 ⟨32 * k.val + r.val, hr⟩ q := by
  subst ho
  refine (eq_ix2 _).trans (congrArg₂ ix2 (Fin.ext ?_) (Fin.ext ?_))
  · exact Rect.idx_unit_val (s := S1280x1280) ![32 * k.val, 0] S32x1280.size inb (ix2 r q) 0
  · exact (Rect.idx_unit_val (s := S1280x1280) ![32 * k.val, 0] S32x1280.size inb (ix2 r q) 1).trans (Nat.zero_add _)

/-- The rows and columns of a block of codes. -/
def codeBlk (w : ℕ → ℕ → EReal) : Vec Ideal S1280x1280 .i8 := fun y => codeAt w (y 0).val (y 1).val

/-- The rows and columns of a block of residuals. -/
def residBlk (w : ℕ → ℕ → EReal) : Vec Ideal S1280x1280 .f32 := fun y => residAt w (y 0).val (y 1).val

section Loop

variable (𝒱 : Variants) (c : Dev nD) (bd : Option 𝒱.V) (i : grid0.Coords) (arg3 : Memref sig .tc .vmem S2048x1280 .bf16) (harg3 : arg3.IsWhole)
    (arg4 : Memref sig .tc .vmem S2048x1280 .bf16) (harg4 : arg4.IsWhole) (arg5 : Memref sig .tc .vmem S1280x1280 .f32) (harg5 : arg5.IsWhole)
    (arg6 : Memref sig .tc .vmem S1280x1280 .i8) (harg6 : arg6.IsWhole) (arg7 : Memref sig .tc .vmem S1280x40 .f32) (harg7 : arg7.IsWhole)
    (arg8 : Memref sig .tc .vmem S1280x1280 .f32) (harg8 : arg8.IsWhole) (h2 : k0_cond2 i = 1#1)
    (X5 : BufTy.Contents (Elt Ideal) arg5.view.ty) (G6 : BufTy.Contents (Elt Ideal) arg6.view.ty)
    (G7 : BufTy.Contents (Elt Ideal) arg7.view.ty) (G8 : BufTy.Contents (Elt Ideal) arg8.view.ty)
    (w : ℕ → ℕ → EReal)
    (hw : ∀ a q : Fin 1280, arg8.view.read (Elt Ideal) G8 (ix2 a q) + arg5.view.read (Elt Ideal) X5 (ix2 a q) = w a.val q.val)

/-- The loop's pieces before trip `k`, at the column block the grid point names. -/
abbrev pb (k : ℕ) := pb_k0_t1 (F := Ideal) 𝒱 c bd i arg3 harg3 arg4 harg4 arg5 harg5 arg6 harg6 arg7 harg7 arg8 harg8
  (BitVec.ofNat 32 (i 1).val) h2 X5 G6 G7 G8 k

include hw

theorem pb_read (k : ℕ) (hk : k ≤ 40) :
    (∀ y, arg6.view.read (Elt Ideal) (arg6.view.writes (Elt Ideal) G6 (pb 𝒱 c bd i arg3 harg3 arg4 harg4 arg5 harg5 arg6 harg6 arg7 harg7 arg8 harg8 h2 X5 G6 G7 G8 k).1) y
        = if (y 0).val < 32 * k then codeAt w (y 0).val (y 1).val else arg6.view.read (Elt Ideal) G6 y)
    ∧ (∀ y, arg7.view.read (Elt Ideal) (arg7.view.writes (Elt Ideal) G7 (pb 𝒱 c bd i arg3 harg3 arg4 harg4 arg5 harg5 arg6 harg6 arg7 harg7 arg8 harg8 h2 X5 G6 G7 G8 k).2.1) y
        = if (y 0).val < 32 * k then scaleLanes w (i 1).val (arg7.view.read (Elt Ideal) G7) y else arg7.view.read (Elt Ideal) G7 y)
    ∧ (∀ y, arg8.view.read (Elt Ideal) (arg8.view.writes (Elt Ideal) G8 (pb 𝒱 c bd i arg3 harg3 arg4 harg4 arg5 harg5 arg6 harg6 arg7 harg7 arg8 harg8 h2 X5 G6 G7 G8 k).2.2) y
        = if (y 0).val < 32 * k then residAt w (y 0).val (y 1).val else arg8.view.read (Elt Ideal) G8 y) := by
  induction k with
  | zero =>
    refine ⟨fun y => ?_, fun y => ?_, fun y => ?_⟩ <;> rw [if_neg (by omega)] <;> rfl
  | succ k ih =>
    obtain ⟨ih6, ih7, ih8⟩ := ih (by omega)
    have hs := pb_k0_t1_succ (F := Ideal) 𝒱 c bd i arg3 harg3 arg4 harg4 arg5 harg5 arg6 harg6 arg7 harg7 arg8 harg8
      (BitVec.ofNat 32 (i 1).val) h2 X5 G6 G7 G8 (⟨k, hk⟩ : Fin k0_t1_loop.trips)
    rw [trip_pieces] at hs
    have hs : pb 𝒱 c bd i arg3 harg3 arg4 harg4 arg5 harg5 arg6 harg6 arg7 harg7 arg8 harg8 h2 X5 G6 G7 G8 (k + 1) = _ := hs
    rw [hs]
    dsimp only
    generalize hW : (addf (F := Ideal) (View.ld (arg8.view.read (Elt Ideal) (arg8.view.writes (Elt Ideal) G8 _)) _) _) = W
    have hW' : ∀ (r : Fin 32) (q : Fin 1280), W (ix2 r q) = w (32 * k + r.val) q.val := by
      intro r q
      have hr : 32 * k + r.val < 1280 := by have := r.isLt; omega
      have e := emb_rows ⟨k, hk⟩ _ (k0_off1_eq ⟨k, hk⟩) (k0_off1_inb i ⟨k, hk⟩ h2) r q hr
      rw [← hW]
      show _ + _ = _
      rw [← hw ⟨32 * k + r.val, hr⟩ q]
      refine congrArg₂ (· + ·) ?_ (congrArg _ e)
      refine (congrArg _ e).trans ((ih8 _).trans (if_neg ?_))
      show ¬ 32 * k + r.val < 32 * k
      omega
    refine ⟨fun y => ?_, fun y => ?_, fun y => ?_⟩
    · rw [View.writes_append, read_codePieces h2 ⟨k, hk⟩ W w hW', ih6]
      dsimp only
      split_ifs <;> first | rfl | omega
    · rw [View.writes_append, read_scalePiece h2 ⟨k, hk⟩ W w hW', ih7]
      dsimp only
      unfold scaleLanes
      rw [ih7]
      split_ifs <;> first | rfl | omega
    · rw [View.writes_append, read_residPieces h2 ⟨k, hk⟩ W w hW', ih8]
      dsimp only
      split_ifs <;> first | rfl | omega

/-- After the loop: the codes, the scale lanes and the residuals of the whole block. -/
theorem loop_reads :
    arg6.view.read (Elt Ideal) (arg6.view.writes (Elt Ideal) G6 (pb_k0_t1 (F := Ideal) 𝒱 c bd i arg3 harg3 arg4 harg4 arg5 harg5 arg6 harg6 arg7 harg7 arg8 harg8
        (BitVec.ofNat 32 (i 1).val) h2 X5 G6 G7 G8 (Scf.trips k0_t1_loop.lb k0_t1_loop.ub k0_t1_loop.st)).1) = codeBlk w
    ∧ arg7.view.read (Elt Ideal) (arg7.view.writes (Elt Ideal) G7 (pb_k0_t1 (F := Ideal) 𝒱 c bd i arg3 harg3 arg4 harg4 arg5 harg5 arg6 harg6 arg7 harg7 arg8 harg8
        (BitVec.ofNat 32 (i 1).val) h2 X5 G6 G7 G8 (Scf.trips k0_t1_loop.lb k0_t1_loop.ub k0_t1_loop.st)).2.1)
      = scaleLanes w (i 1).val (arg7.view.read (Elt Ideal) G7)
    ∧ arg8.view.read (Elt Ideal) (arg8.view.writes (Elt Ideal) G8 (pb_k0_t1 (F := Ideal) 𝒱 c bd i arg3 harg3 arg4 harg4 arg5 harg5 arg6 harg6 arg7 harg7 arg8 harg8
        (BitVec.ofNat 32 (i 1).val) h2 X5 G6 G7 G8 (Scf.trips k0_t1_loop.lb k0_t1_loop.ub k0_t1_loop.st)).2.2) = residBlk w := by
  have ht : Scf.trips k0_t1_loop.lb k0_t1_loop.ub k0_t1_loop.st = 40 := by decide
  rw [ht]
  obtain ⟨h6, h7, h8⟩ := pb_read 𝒱 c bd i arg3 harg3 arg4 harg4 arg5 harg5 arg6 harg6 arg7 harg7 arg8 harg8 h2 X5 G6 G7 G8 w hw 40 (Nat.le_refl 40)
  refine ⟨funext fun y => (h6 y).trans (if_pos ?_), funext fun y => (h7 y).trans (if_pos ?_), funext fun y => (h8 y).trans (if_pos ?_)⟩ <;>
  · have h : (y 0).val < 1280 := (y 0).isLt
    omega

end Loop

end Cert.KernelIdeal.Value

end
-- ==== Proof.Runs.lean ====
/- The kernel body's three runs, by the grid point's token step: the first (the accumulator starts from zero), one in
   the middle (the accumulator grows), and the last (the accumulated block is quantised). Each says what the three
   written blocks hold afterwards, in terms of what they held before. -/
module

public import proofs.«01_k».proof.Proof.Loop

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Quant

local notation "𝕄" => MT nD τ sig Unit (Elt Ideal) ℕ (UR sig nD τ) ℕ

/-- The condition of the body's first branch: the first token step. -/
abbrev cond0_0 (i : grid0.Coords) : Prop := (Scalar.cmpi .ne (Scalar.extui (Scalar.cmpi .eq (BitVec.ofNat 32 (i 2).val) 0#32)) 0#32) = 1#1
/-- The condition of the body's second branch: the last token step. -/
abbrev cond0_1 (i : grid0.Coords) : Prop := k0_cond2 i = 1#1

variable (c : Dev nD) (i : grid0.Coords) (arg3 : Memref sig .tc .vmem S2048x1280 .bf16) (harg3 : arg3.IsWhole)
    (arg4 : Memref sig .tc .vmem S2048x1280 .bf16) (harg4 : arg4.IsWhole) (arg5 : Memref sig .tc .vmem S1280x1280 .f32) (harg5 : arg5.IsWhole)
    (arg6 : Memref sig .tc .vmem S1280x1280 .i8) (harg6 : arg6.IsWhole) (arg7 : Memref sig .tc .vmem S1280x40 .f32) (harg7 : arg7.IsWhole)
    (arg8 : Memref sig .tc .vmem S1280x1280 .f32) (harg8 : arg8.IsWhole)
    (x0 x1 : Vec Ideal S2048x1280 .bf16) (x2 : Vec Ideal S1280x1280 .f32)
    (d3 : Vec Ideal S1280x1280 .i8) (d4 : Vec Ideal S1280x40 .f32) (d5 : Vec Ideal S1280x1280 .f32)

/-- A block stored whole reads back as the stored block. -/
theorem read_whole_store {S : Shape} {e : EltTy} {sp : Space} (v : View sig .tc sp S e) (f : v.ty.Contents (Elt Ideal))
    (off : Fin S.rank → ℕ) (h0 : off = fun _ => 0) (inb) (d : S.Idx → Elt Ideal e) (L : List (View.Piece (Elt Ideal) S e)) :
    v.read (Elt Ideal) (v.writes (Elt Ideal) f (⟨Rect.unit off S.size inb, d⟩ :: L)) = d := by
  subst h0
  funext y
  have e : (Rect.unit (fun _ => 0) S.size inb).emb y = y := funext fun a => Fin.ext ((Rect.idx_unit_val _ _ inb y a).trans (Nat.zero_add _))
  have h := View.read_writes_cons_emb v f (Rect.unit (fun _ => 0) S.size inb) d L y
  rwa [e] at h

set_option maxHeartbeats 1000000 in
/-- The first token step: the accumulator becomes the first partial product over zero. -/
theorem run_first (hc0 : cond0_0 i) (hc1 : ¬cond0_1 i) : ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare d4 ∗ owns (c : Thread nD τ) arg8 fullShare d5
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare d4 ∗ owns (c : Thread nD τ) arg8 fullShare (k0_pay2 (k0_pay1 (F := Ideal)) x0 x1)) -∗ K ⟨⟩))
      ⊢ wp frame (wpE (defs₀ (F := Ideal)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro
    have hz : (![0, 0] : Fin 2 → ℕ) = fun _ => 0 := by funext a; fin_cases a <;> rfl
    refine (read_whole_store arg8.view _ _ hz inb_S1280x1280_S1280x1280_0_0 _ _).trans ?_
    rw [View.readAt_eq_ld, View.readAt_eq_ld, View.ld_unit_zero hz, View.ld_unit_zero hz, hf0, hf1]
    unfold run_first.sl.v3 run_first.sl.H5_1
    rw [View.readCov_unit_zero _ hz]

set_option maxHeartbeats 1000000 in
/-- A middle token step: the accumulator grows by one partial product. -/
theorem run_middle (hc0 : ¬cond0_0 i) (hc1 : ¬cond0_1 i) : ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare d4 ∗ owns (c : Thread nD τ) arg8 fullShare d5
        ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare d4 ∗ owns (c : Thread nD τ) arg8 fullShare (k0_pay2 d5 x0 x1)) -∗ K ⟨⟩))
      ⊢ wp frame (wpE (defs₀ (F := Ideal)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    iexists _; isplitr; swap; · iexact H5
    ipureintro
    have hz : (![0, 0] : Fin 2 → ℕ) = fun _ => 0 := by funext a; fin_cases a <;> rfl
    refine (read_whole_store arg8.view _ _ hz inb_S1280x1280_S1280x1280_0_0 _ _).trans ?_
    rw [View.readAt_eq_ld, View.readAt_eq_ld, View.readAt_eq_ld, View.ld_unit_zero hz, View.ld_unit_zero hz, View.ld_unit_zero hz, hf0, hf1, hf5]

set_option maxHeartbeats 1000000 in
/-- The last token step: the accumulated block, the error added, is quantised. -/
theorem run_last (hc0 : ¬cond0_0 i) (hc1 : cond0_1 i) (w : ℕ → ℕ → EReal)
    (hw : ∀ a q : Fin 1280, (k0_pay2 d5 x0 x1 : FVec Ideal S1280x1280 .f32) (ix2 a q) + x2 (ix2 a q) = w a.val q.val) : ∀ (E : Set ℕ) (K : PUnit → sProp 𝕄),
    iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare d4 ∗ owns (c : Thread nD τ) arg8 fullShare d5
        ∗ (iprop(owns (c : Thread nD τ) arg3 fullShare x0 ∗ owns (c : Thread nD τ) arg4 fullShare x1 ∗ owns (c : Thread nD τ) arg5 fullShare x2 ∗ owns (c : Thread nD τ) arg6 fullShare (codeBlk w) ∗ owns (c : Thread nD τ) arg7 fullShare (scaleLanes w (i 1).val d4) ∗ owns (c : Thread nD τ) arg8 fullShare (residBlk w)) -∗ K ⟨⟩))
      ⊢ wp frame (wpE (defs₀ (F := Ideal)) Variants.none c none) E (cc0_ef_int8_wgrad i arg3 harg3 arg4 harg4 arg5 harg5 arg6 harg6 arg7 harg7 arg8 harg8) K := by
    intro E K
    simp only [cc0_ef_int8_wgrad_eq_skeleton]; unfold cc0_ef_int8_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    have hz : (![0, 0] : Fin 2 → ℕ) = fun _ => 0 := by funext a; fin_cases a <;> rfl
    sl_exec (disch := first | sl_exact hc0 | sl_exact hc1)
    sl_step
    have hacc : arg8.view.read (Elt Ideal) (arg8.view.writes (Elt Ideal) arg8.view.junk (run_last.sl.H5_1 c arg3 arg4 arg8 f0 f1 f5)) = k0_pay2 d5 x0 x1 := by
      unfold run_last.sl.H5_1
      refine (read_whole_store arg8.view _ _ hz inb_S1280x1280_S1280x1280_0_0 _ _).trans ?_
      rw [View.readAt_eq_ld, View.readAt_eq_ld, View.readAt_eq_ld, View.ld_unit_zero hz, View.ld_unit_zero hz, View.ld_unit_zero hz, hf0, hf1, hf5]
    obtain ⟨h6, h7, h8⟩ := loop_reads Variants.none c none i arg3 harg3 arg4 harg4 arg5 harg5 arg6 harg6 arg7 harg7 arg8 harg8 hc1 f2 f3 f4
      (arg8.view.writes (Elt Ideal) arg8.view.junk (run_last.sl.H5_1 c arg3 arg4 arg8 f0 f1 f5)) w
      (fun a q => by rw [hacc, hf2]; exact hw a q)
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro
      exact h6
    isplitl [H4]
    · iexists _; isplitr; swap; · iexact H4
      ipureintro
      exact h7.trans (by rw [hf4])
    iexists _; isplitr; swap; · iexact H5
    ipureintro
    rw [View.writes_append]; exact h8

end Cert.KernelIdeal.Value

end
-- ==== Proof.Spec.lean ====
/- What the results are, as mathematics over whole arrays addressed by natural numbers: partial products over the first
   `n` tokens, the corrected gradient, and how a block of 1280 by 1280 sits in the array. -/
module

public import proofs.«01_k».proof.Proof.Loop
public import proofs.«01_k».proof.Proof.Gen.KernelIdeal.Frame

@[expose] public section

set_option maxRecDepth 16384

noncomputable section

namespace Cert.KernelIdeal.Value

open Idealize.ShloMosaic
open Cert.KernelIdeal Cert.KernelIdeal.Gen Cert.Quant

/-! ## The specification -/

/-- An array's entry at two natural numbers: zero outside. -/
def entry {a b : ℕ} (X : (⟨2, ![a, b]⟩ : Shape).Idx → EReal) (i j : ℕ) : EReal :=
  if h : i < a ∧ j < b then X (ix2 ⟨i, h.1⟩ ⟨j, h.2⟩) else 0

theorem entry_ix2 {a b : ℕ} (X : (⟨2, ![a, b]⟩ : Shape).Idx → EReal) (i : Fin a) (j : Fin b) : entry X i.val j.val = X (ix2 i j) :=
  dif_pos ⟨i.isLt, j.isLt⟩

/-- The gradient over the first `n` tokens. -/
def partialAt (X Y : (⟨2, ![47104, 5120]⟩ : Shape).Idx → EReal) (n p q : ℕ) : EReal :=
  ∑ s ∈ Finset.range n, entry X s p * entry Y s q

/-- The whole gradient with the carried error added: what is quantised. -/
def totalAt (X Y : (⟨2, ![47104, 5120]⟩ : Shape).Idx → EReal) (E : (⟨2, ![5120, 5120]⟩ : Shape).Idx → EReal) (p q : ℕ) : EReal :=
  partialAt X Y 47104 p q + entry E p q

theorem partialAt_zero (X Y : (⟨2, ![47104, 5120]⟩ : Shape).Idx → EReal) (p q : ℕ) : partialAt X Y 0 p q = 0 := by
  unfold partialAt; rw [Finset.range_zero, Finset.sum_empty]

/-- One more block of 2048 tokens. -/
theorem partialAt_step (X Y : (⟨2, ![47104, 5120]⟩ : Shape).Idx → EReal) (k p q : ℕ) :
    partialAt X Y (2048 * k) p q + ∑ s : Fin 2048, entry X (2048 * k + s.val) p * entry Y (2048 * k + s.val) q = partialAt X Y (2048 * (k + 1)) p q := by
  unfold partialAt
  rw [Nat.mul_succ, Finset.sum_range_add, Finset.sum_range (fun s => entry X (2048 * k + s) p * entry Y (2048 * k + s) q)]

/-! ## A block of the array -/

/-- The array seen from row `a₀` and lane `q₀`. -/
def shiftAt (w : ℕ → ℕ → EReal) (a₀ q₀ : ℕ) : ℕ → ℕ → EReal := fun a q => w (a₀ + a) (q₀ + q)

theorem rowAt_shift (w : ℕ → ℕ → EReal) (a₀ j a b : ℕ) : rowAt (shiftAt w a₀ (1280 * j)) a b = rowAt w (a₀ + a) (10 * j + b) := by
  funext l
  show w (a₀ + a) (1280 * j + (128 * b + l.val)) = w (a₀ + a) (128 * (10 * j + b) + l.val)
  congr 1; omega

theorem scaleAt_shift (w : ℕ → ℕ → EReal) (a₀ j a b : ℕ) : scaleAt (shiftAt w a₀ (1280 * j)) a b = scaleAt w (a₀ + a) (10 * j + b) := by
  unfold scaleAt; rw [rowAt_shift]

theorem codeAt_shift (w : ℕ → ℕ → EReal) (a₀ j a q : ℕ) : codeAt (shiftAt w a₀ (1280 * j)) a q = codeAt w (a₀ + a) (1280 * j + q) := by
  have e : (1280 * j + q) / 128 = 10 * j + q / 128 := by omega
  unfold codeAt; rw [rowAt_shift, e]; rfl

theorem residAt_shift (w : ℕ → ℕ → EReal) (a₀ j a q : ℕ) : residAt (shiftAt w a₀ (1280 * j)) a q = residAt w (a₀ + a) (1280 * j + q) := by
  have e : (1280 * j + q) / 128 = 10 * j + q / 128 := by omega
  unfold residAt; rw [rowAt_shift, e]; rfl

/-! ## The accumulation step at an index -/

theorem pay2_apply (d : Vec Ideal S1280x1280 .f32) (x0 x1 : Vec Ideal S2048x1280 .bf16) (a q : Fin 1280) :
    (k0_pay2 d x0 x1 : FVec Ideal S1280x1280 .f32) (ix2 a q) = d (ix2 a q) + ∑ s : Fin 2048, x0 (ix2 s a) * x1 (ix2 s q) := by
  unfold k0_pay2
  pointwise []

theorem pay1_apply (a q : Fin 1280) : (k0_pay1 (F := Ideal)) (ix2 a q) = 0 := by
  unfold k0_pay1
  pointwise []

/-! ## The input blocks at an index -/

variable (m : (ℓ : Loc nD τ sig) → Buf (Elt Ideal) ℓ)

/-- The three argument arrays. -/
abbrev argX (c : Dev nD) : (⟨2, ![47104, 5120]⟩ : Shape).Idx → EReal := V m c main_arg0
abbrev argY (c : Dev nD) : (⟨2, ![47104, 5120]⟩ : Shape).Idx → EReal := V m c main_arg1
abbrev argE (c : Dev nD) : (⟨2, ![5120, 5120]⟩ : Shape).Idx → EReal := V m c main_arg2

theorem coords0 (t : Fin cfg0.N) : (grid0.coords t 0).val = t.val / 92 := by
  have ht : t.val < 368 := Nat.lt_of_lt_of_eq t.isLt N_0
  exact (Pipeline.Grid.coords_val t 0 (by decide) rfl : (grid0.coords t 0).val = t.val / 92 % 4).trans (by omega)
theorem coords1 (t : Fin cfg0.N) : (grid0.coords t 1).val = t.val / 23 % 4 := Pipeline.Grid.coords_val t 1 (by decide) rfl
theorem coords2 (t : Fin cfg0.N) : (grid0.coords t 2).val = t.val % 23 := by
  exact (Pipeline.Grid.coords_val t 2 (by decide) rfl : (grid0.coords t 2).val = t.val / 1 % 23).trans (by rw [Nat.div_one])

theorem word_small (n : ℕ) (h : n < 4294967296) : (BitVec.ofNat 32 n).toNat = n := by
  rw [BitVec.toNat_ofNat]; exact Nat.mod_eq_of_lt h

/-- Each window's block index at a point. -/
theorem index0_0 (t : Fin cfg0.N) : win0_0.index t (0 : Fin 2) = t.val % 23 :=
  (word_small _ (by have := (grid0.coords t 2).isLt; rw [coords2]; omega)).trans (coords2 t)
theorem index0_1 (t : Fin cfg0.N) : win0_0.index t (1 : Fin 2) = t.val / 92 :=
  (word_small _ (by have ht : t.val < 368 := Nat.lt_of_lt_of_eq t.isLt N_0; rw [coords0]; omega)).trans (coords0 t)
theorem index1_0 (t : Fin cfg0.N) : win0_1.index t (0 : Fin 2) = t.val % 23 :=
  (word_small _ (by rw [coords2]; omega)).trans (coords2 t)
theorem index1_1 (t : Fin cfg0.N) : win0_1.index t (1 : Fin 2) = t.val / 23 % 4 :=
  (word_small _ (by rw [coords1]; omega)).trans (coords1 t)
theorem index2_0 (t : Fin cfg0.N) : win0_2.index t (0 : Fin 2) = t.val / 92 :=
  (word_small _ (by have ht : t.val < 368 := Nat.lt_of_lt_of_eq t.isLt N_0; rw [coords0]; omega)).trans (coords0 t)
theorem index2_1 (t : Fin cfg0.N) : win0_2.index t (1 : Fin 2) = t.val / 23 % 4 :=
  (word_small _ (by rw [coords1]; omega)).trans (coords1 t)
theorem index3_0 (t : Fin cfg0.N) : win0_3.index t (0 : Fin 2) = t.val / 92 :=
  (word_small _ (by have ht : t.val < 368 := Nat.lt_of_lt_of_eq t.isLt N_0; rw [coords0]; omega)).trans (coords0 t)
theorem index3_1 (t : Fin cfg0.N) : win0_3.index t (1 : Fin 2) = t.val / 23 % 4 :=
  (word_small _ (by rw [coords1]; omega)).trans (coords1 t)
theorem index4_0 (t : Fin cfg0.N) : win0_4.index t (0 : Fin 2) = t.val / 92 :=
  (word_small _ (by have ht : t.val < 368 := Nat.lt_of_lt_of_eq t.isLt N_0; rw [coords0]; omega)).trans (coords0 t)
theorem index4_1 (t : Fin cfg0.N) : win0_4.index t (1 : Fin 2) = 0 := rfl
theorem index5_0 (t : Fin cfg0.N) : win0_5.index t (0 : Fin 2) = t.val / 92 :=
  (word_small _ (by have ht : t.val < 368 := Nat.lt_of_lt_of_eq t.isLt N_0; rw [coords0]; omega)).trans (coords0 t)
theorem index5_1 (t : Fin cfg0.N) : win0_5.index t (1 : Fin 2) = t.val / 23 % 4 :=
  (word_small _ (by rw [coords1]; omega)).trans (coords1 t)

theorem iblk0_apply (c : Dev nD) (t : Fin cfg0.N) (s : Fin 2048) (a : Fin 1280) :
    (iblk m c 0 t : S2048x1280.Idx → EReal) (ix2 s a) = entry (argX m c) (2048 * (t.val % 23) + s.val) (1280 * (t.val / 92) + a.val) := by
  have ht : t.val < 368 := Nat.lt_of_lt_of_eq t.isLt N_0
  unfold entry
  rw [dif_pos ⟨by omega, by omega⟩]
  show V m c main_arg0 (((cfg0.win 0).blk t).view.emb (ix2 s a)) = V m c main_arg0 _
  refine congrArg _ (funext fun b => Fin.ext ?_)
  match b with
  | ⟨0, _⟩ => show win0_0.index t (0 : Fin 2) * 2048 + 1 * s.val = 2048 * (t.val % 23) + s.val; rw [index0_0]; omega
  | ⟨1, _⟩ => show win0_0.index t (1 : Fin 2) * 1280 + 1 * a.val = 1280 * (t.val / 92) + a.val; rw [index0_1]; omega

theorem iblk1_apply (c : Dev nD) (t : Fin cfg0.N) (s : Fin 2048) (a : Fin 1280) :
    (iblk m c 1 t : S2048x1280.Idx → EReal) (ix2 s a) = entry (argY m c) (2048 * (t.val % 23) + s.val) (1280 * (t.val / 23 % 4) + a.val) := by
  have ht : t.val < 368 := Nat.lt_of_lt_of_eq t.isLt N_0
  unfold entry
  rw [dif_pos ⟨by omega, by omega⟩]
  show V m c main_arg1 (((cfg0.win 1).blk t).view.emb (ix2 s a)) = V m c main_arg1 _
  refine congrArg _ (funext fun b => Fin.ext ?_)
  match b with
  | ⟨0, _⟩ => show win0_1.index t (0 : Fin 2) * 2048 + 1 * s.val = 2048 * (t.val % 23) + s.val; rw [index1_0]; omega
  | ⟨1, _⟩ => show win0_1.index t (1 : Fin 2) * 1280 + 1 * a.val = 1280 * (t.val / 23 % 4) + a.val; rw [index1_1]; omega

theorem iblk2_apply (c : Dev nD) (t : Fin cfg0.N) (s : Fin 1280) (a : Fin 1280) :
    (iblk m c 2 t : S1280x1280.Idx → EReal) (ix2 s a) = entry (argE m c) (1280 * (t.val / 92) + s.val) (1280 * (t.val / 23 % 4) + a.val) := by
  have ht : t.val < 368 := Nat.lt_of_lt_of_eq t.isLt N_0
  unfold entry
  rw [dif_pos ⟨by omega, by omega⟩]
  show V m c main_arg2 (((cfg0.win 2).blk t).view.emb (ix2 s a)) = V m c main_arg2 _
  refine congrArg _ (funext fun b => Fin.ext ?_)
  match b with
  | ⟨0, _⟩ => show win0_2.index t (0 : Fin 2) * 1280 + 1 * s.val = 1280 * (t.val / 92) + s.val; rw [index2_0]; omega
  | ⟨1, _⟩ => show win0_2.index t (1 : Fin 2) * 1280 + 1 * a.val = 1280 * (t.val / 23 % 4) + a.val; rw [index2_1]; omega

/-! ## One step of the body, at a point -/

/-- What is quantised, over the argument arrays of core `c`. -/
def total (c : Dev nD) : ℕ → ℕ → EReal := totalAt (argX m c) (argY m c) (argE m c)

/-- The gradient over the first `n` tokens, as block of point `t`. -/
def partialBlk (c : Dev nD) (t : Fin cfg0.N) (n : ℕ) (a q : ℕ) : EReal :=
  partialAt (argX m c) (argY m c) n (1280 * (t.val / 92) + a) (1280 * (t.val / 23 % 4) + q)

/-- What is quantised, as the block of point `t` has it. -/
def totalBlk (c : Dev nD) (t : Fin cfg0.N) : ℕ → ℕ → EReal := shiftAt (total m c) (1280 * (t.val / 92)) (1280 * (t.val / 23 % 4))

/-- A step over an accumulator that holds the tokens before this point's. -/
theorem step_apply (c : Dev nD) (t : Fin cfg0.N) (d : Vec Ideal S1280x1280 .f32)
    (hd : ∀ a q : Fin 1280, (d (ix2 a q) : EReal) = partialBlk m c t (2048 * (t.val % 23)) a.val q.val) (a q : Fin 1280) :
    (k0_pay2 d (iblk m c 0 t) (iblk m c 1 t) : FVec Ideal S1280x1280 .f32) (ix2 a q) = partialBlk m c t (2048 * (t.val % 23 + 1)) a.val q.val := by
  refine (pay2_apply _ _ _ a q).trans ?_
  unfold partialBlk
  rw [← partialAt_step, hd a q]
  unfold partialBlk
  refine congrArg _ (Finset.sum_congr rfl fun s _ => ?_)
  exact congrArg₂ (· * ·) (iblk0_apply m c t s a) (iblk1_apply m c t s q)

/-- The last step with the error block added. -/
theorem last_apply (c : Dev nD) (t : Fin cfg0.N) (h : t.val % 23 = 22) (d : Vec Ideal S1280x1280 .f32)
    (hd : ∀ a q : Fin 1280, (d (ix2 a q) : EReal) = partialBlk m c t (2048 * (t.val % 23)) a.val q.val) (a q : Fin 1280) :
    (k0_pay2 d (iblk m c 0 t) (iblk m c 1 t) : FVec Ideal S1280x1280 .f32) (ix2 a q) + (iblk m c 2 t : S1280x1280.Idx → EReal) (ix2 a q)
      = totalBlk m c t a.val q.val := by
  rw [step_apply m c t d hd a q, iblk2_apply m c t a q, h]
  rfl

end Cert.KernelIdeal.Value

end
-- ==== Proof.Body.lean ====
/- The kernel's body at every grid point, and the run: what each result's staging block holds after a point (`held`), the
   body's triple at the point (`sound_body`), and the run of the whole grid (`run_main`). -/
module

public import proofs.«01_k».proof.Proof.Runs
public import proofs.«01_k».proof.Proof.Spec
public import Idealize.ShloMosaic.Lib.Pipeline.ArrRel
public import Idealize.ShloMosaic.Lib.Pipeline.DatRel
public import Idealize.ShloMosaic.Lib.Claim

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal Cert.KernelIdeal.Gen Cert.Quant

local notation "𝕄" => MT nD τ sig Unit (Elt Ideal) ℕ (UR sig nD τ) ℕ

variable (m : (ℓ : Loc nD τ sig) → Buf (Elt Ideal) ℓ) (ρ : Dev nD → PrngReg)

/-! ## The branch conditions and the staging blocks -/

/-- The first branch runs at the points ≡ 0 (mod 23). -/
theorem hcond0_0 (t : Fin cfg0.N) : cond0_0 (grid0.coords t) ↔ t.val % 23 = 0 := by
  have ht : t.val < 368 := Nat.lt_of_lt_of_eq t.isLt N_0
  simp only [cond0_0, coords2]
  word_cmp

/-- The second branch runs at the points ≡ 22 (mod 23). -/
theorem hcond0_1 (t : Fin cfg0.N) : cond0_1 (grid0.coords t) ↔ t.val % 23 = 22 := by
  have ht : t.val < 368 := Nat.lt_of_lt_of_eq t.isLt N_0
  simp only [cond0_1, k0_cond2, coords2]
  word_cmp

/-- Each window's current staging memref at point `t`, spelled as the pipeline passes it (`bodyAt0`), and its wholeness. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x1280 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x40 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x1280 .f32 := win0_5.stage (cfg0.slots t 5)
abbrev hs0_5 (t : Fin cfg0.N) : (ms0_5 t).IsWhole := hstage0_5 ((cfg0.slots t 5).cast nbuf0_5)

/-! ## The proof data -/

/-- The windows whose contents are held to a relation: the three results. -/
def marked : Fin 6 → Bool := fun w => w.val == 3 || w.val == 4 || w.val == 5

/-- The scales known after a point: every run of the blocks of lanes done, in the rows of the point's block. -/
def scalesKnown (c : Dev nD) (t : Fin cfg0.N) (n : ℕ) (X : Vec Ideal S1280x40 .f32) : Prop :=
  ∀ (a : Fin 1280) (b : Fin 40), b.val < n → (X (ix2 a b) : EReal) = scaleAt (total m c) (1280 * (t.val / 92) + a.val) b.val

/-- The accumulator holds the product over the first `n` tokens, in the point's block. -/
def accIs (c : Dev nD) (t : Fin cfg0.N) (n : ℕ) (X : Vec Ideal S1280x1280 .f32) : Prop :=
  ∀ a q : Fin 1280, (X (ix2 a q) : EReal) = partialBlk m c t n a.val q.val

/-- What the body leaves in the codes' block: at the last token step, the codes. -/
def held3 (c : Dev nD) (t : Fin cfg0.N) (X : Vec Ideal S1280x1280 .i8) : Prop := t.val % 23 = 22 → X = codeBlk (totalBlk m c t)
/-- What the body leaves in the scales' block: the scales of the blocks of lanes done. -/
def held4 (c : Dev nD) (t : Fin cfg0.N) (X : Vec Ideal S1280x40 .f32) : Prop :=
  scalesKnown m c t (if t.val % 23 = 22 then 10 * (t.val / 23 % 4) + 10 else 10 * (t.val / 23 % 4)) X
/-- What the body leaves in the residuals' block: the partial product, and at the last token step the residuals. -/
def held5 (c : Dev nD) (t : Fin cfg0.N) (X : Vec Ideal S1280x1280 .f32) : Prop :=
  (t.val % 23 = 22 → X = residBlk (totalBlk m c t)) ∧ (t.val % 23 ≠ 22 → accIs m c t (2048 * (t.val % 23 + 1)) X)

/-- The three together, window by window. -/
def held (c : Dev nD) (w : Fin cfg0.W) (t : Fin cfg0.N) : ((cfg0.win w).block.Idx → Elt Ideal (cfg0.win w).elt) → Prop :=
  match w with
  | ⟨3, _⟩ => held3 m c t
  | ⟨4, _⟩ => held4 m c t
  | ⟨5, _⟩ => held5 m c t
  | _ => fun _ => True

/-- The proof data on core `c`: the arrays as the region finds them, each input's block left in place, the results
    named by `held` alone. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's staging block holds the input's block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The same data with the results held to `held`. -/
abbrev rdat (c : Dev nD) : RDat τ (Elt Ideal) Unit ℕ (UR sig nD τ) ℕ cfg0 c := (dats m 0 c).toRRel marked (held m c)

/-! ## What a point finds -/

/-- The scales found at a point: those of the blocks of lanes before this point's. -/
theorem finds4 (c : Dev nD) (t : Fin cfg0.N) (X : Vec Ideal S1280x40 .f32) (hX : (rdat m c).Finds 4 t X) :
    scalesKnown m c t (10 * (t.val / 23 % 4)) X := by
  have hN : t.val < 368 := Nat.lt_of_lt_of_eq t.isLt N_0
  by_cases h : t.val % 92 = 0
  · intro a b hb
    exfalso; omega
  · have ht : t.val ≠ 0 := by omega
    have hf := ((rdat m c).finds_of_pos (w := 4) ((cfg0.win 4).fetch_out rfl t) ht X).mp hX
    rcases hf with hf | hL
    · have := (flush0_4 _).mp hf
      have : (t.val - 1) % 92 = 91 := this
      exfalso; omega
    · have h4 : held4 m c ⟨t.val - 1, by omega⟩ X := (dats m 0 c).toRRel_leaves (w := 4) (fgt := marked) (Rl := held m c) rfl hL
      intro a b hb
      have hd : (t.val - 1) / 92 = t.val / 92 := by omega
      have := h4 a b (by show b.val < if (t.val - 1) % 23 = 22 then 10 * ((t.val - 1) / 23 % 4) + 10 else 10 * ((t.val - 1) / 23 % 4); split_ifs <;> omega)
      rw [this]
      show scaleAt (total m c) (1280 * ((t.val - 1) / 92) + a.val) b.val = _
      rw [hd]

/-- The accumulator found at a point that is not the first token step: the product over the tokens before. -/
theorem finds5 (c : Dev nD) (t : Fin cfg0.N) (h : t.val % 23 ≠ 0) (X : Vec Ideal S1280x1280 .f32) (hX : (rdat m c).Finds 5 t X) :
    accIs m c t (2048 * (t.val % 23)) X := by
  have hN : t.val < 368 := Nat.lt_of_lt_of_eq t.isLt N_0
  have ht : t.val ≠ 0 := by omega
  have hf := ((rdat m c).finds_of_pos (w := 5) ((cfg0.win 5).fetch_out rfl t) ht X).mp hX
  rcases hf with hf | hL
  · have := (flush0_5 _).mp hf
    have : (t.val - 1) % 23 = 22 := this
    exfalso; omega
  · have h5 : held5 m c ⟨t.val - 1, by omega⟩ X := (dats m 0 c).toRRel_leaves (w := 5) (fgt := marked) (Rl := held m c) rfl hL
    intro a q
    have hne : (t.val - 1) % 23 ≠ 22 := by omega
    have e1 : (t.val - 1) / 92 = t.val / 92 := by omega
    have e2 : (t.val - 1) / 23 % 4 = t.val / 23 % 4 := by omega
    have e3 : (t.val - 1) % 23 + 1 = t.val % 23 := by omega
    rw [h5.2 hne a q]
    show partialAt _ _ (2048 * ((t.val - 1) % 23 + 1)) (1280 * ((t.val - 1) / 92) + a.val) (1280 * ((t.val - 1) / 23 % 4) + q.val) = _
    rw [e1, e2, e3]
    rfl

/-- The scales after the last token step of a block of lanes. -/
theorem scalesKnown_last (c : Dev nD) (t : Fin cfg0.N) (X : Vec Ideal S1280x40 .f32) (hX : scalesKnown m c t (10 * (t.val / 23 % 4)) X) :
    scalesKnown m c t (10 * (t.val / 23 % 4) + 10) (scaleLanes (totalBlk m c t) (grid0.coords t 1).val X) := by
  intro a b hb
  rw [coords1]
  show (if 10 * (t.val / 23 % 4) ≤ b.val ∧ b.val < 10 * (t.val / 23 % 4) + 10 then scaleAt (totalBlk m c t) a.val (b.val - 10 * (t.val / 23 % 4)) else X (ix2 a b)) = _
  split_ifs with h
  · unfold totalBlk
    rw [scaleAt_shift]
    congr 1; omega
  · exact hX a b (by omega)

/-- Over the zero block the accumulator holds the product over no tokens. -/
theorem accIs_zero (c : Dev nD) (t : Fin cfg0.N) (h : t.val % 23 = 0) : accIs m c t (2048 * (t.val % 23)) (k0_pay1 (F := Ideal)) := by
  intro a q
  rw [pay1_apply, h]
  unfold partialBlk
  rw [Nat.mul_zero, partialAt_zero]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜held3 m c t X⌝ ∗ owns (c : Thread nD τ) (ms0_3 t) fullShare X)
    ∗ (∃ X, ⌜held4 m c t X⌝ ∗ owns (c : Thread nD τ) (ms0_4 t) fullShare X)
    ∗ (∃ X, ⌜held5 m c t X⌝ ∗ owns (c : Thread nD τ) (ms0_5 t) fullShare X))

set_option maxHeartbeats 1200000 in
/-- The body at any point, by its case: the first token step, the last, or one between. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, %h3, H3⟩, ⟨%d4, %h4, H4⟩, ⟨%d5, %h5, H5⟩⟩
  have h4' := finds4 m c t d4 h4
  by_cases h0 : t.val % 23 = 0
  · have h1 : t.val % 23 ≠ 22 := by omega
    iapply (run_first c (grid0.coords t) _ (hs0_0 t) _ (hs0_1 t) _ (hs0_2 t) _ (hs0_3 t) _ (hs0_4 t) _ (hs0_5 t) (iblk m c 0 t) (iblk m c 1 t) (iblk m c 2 t) d3 d4 d5 ((hcond0_0 t).mpr h0) (fun h => h1 ((hcond0_1 t).mp h)) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]
    · iexists _; isplitr; swap; · iexact H3
      ipureintro; exact fun h => absurd h h1
    isplitl [H4]
    · iexists _; isplitr; swap; · iexact H4
      ipureintro; unfold held4; rw [if_neg h1]; exact h4'
    · iexists _; isplitr; swap; · iexact H5
      ipureintro; exact ⟨fun h => absurd h h1, fun _ => step_apply m c t _ (accIs_zero m c t h0)⟩
  · have h5' := finds5 m c t h0 d5 h5
    by_cases h1 : t.val % 23 = 22
    · iapply (run_last c (grid0.coords t) _ (hs0_0 t) _ (hs0_1 t) _ (hs0_2 t) _ (hs0_3 t) _ (hs0_4 t) _ (hs0_5 t) (iblk m c 0 t) (iblk m c 1 t) (iblk m c 2 t) d3 d4 d5 (fun h => h0 ((hcond0_0 t).mp h)) ((hcond0_1 t).mpr h1) (totalBlk m c t) (last_apply m c t h1 d5 h5') Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]
      · iexists _; isplitr; swap; · iexact H3
        ipureintro; exact fun _ => rfl
      isplitl [H4]
      · iexists _; isplitr; swap; · iexact H4
        ipureintro; unfold held4; rw [if_pos h1]; exact scalesKnown_last m c t d4 h4'
      · iexists _; isplitr; swap; · iexact H5
        ipureintro; exact ⟨fun _ => rfl, fun h => absurd h1 h⟩
    · iapply (run_middle c (grid0.coords t) _ (hs0_0 t) _ (hs0_1 t) _ (hs0_2 t) _ (hs0_3 t) _ (hs0_4 t) _ (hs0_5 t) (iblk m c 0 t) (iblk m c 1 t) (iblk m c 2 t) d3 d4 d5 (fun h => h0 ((hcond0_0 t).mp h)) (fun h => h1 ((hcond0_1 t).mp h)) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]
      · iexists _; isplitr; swap; · iexact H3
        ipureintro; exact fun h => absurd h h1
      isplitl [H4]
      · iexists _; isplitr; swap; · iexact H4
        ipureintro; unfold held4; rw [if_neg h1]; exact h4'
      · iexists _; isplitr; swap; · iexact H5
        ipureintro; exact ⟨fun h => absurd h h1, fun _ => step_apply m c t d5 h5'⟩

/-- The body table's row at point `t` is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ marked (held m c) := fun t => by
  rw [bigSep_W0, bigSep_W0, defs₀_row]
  exact triple_restated (sound_body m c t) rfl .rfl fun _ => .rfl

/-! ## The run -/

set_option backward.isDefEq.respectTransparency.types false in
/-- Every execution terminates, with every array as the proof data say and every semaphore counter at zero. -/
theorem run_main : θ_run defs (onTc (τ := τ) (main (F := Ideal))) (s₀ m ρ)
    (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The frame: the arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(RDat.FramePost.arr_in h.1 c 0 rfl).trans ((A_eq m c 0).trans (V_main_arg0 m c)),
      (RDat.FramePost.arr_in h.1 c 1 rfl).trans ((A_eq m c 1).trans (V_main_arg1 m c)),
      (RDat.FramePost.arr_in h.1 c 2 rfl).trans ((A_eq m c 2).trans (V_main_arg2 m c))⟩, h.2⟩) (run_main m ρ)

end Cert.KernelIdeal.Value

end
-- ==== Proof.Arrays.lean ====
/- The three result arrays after the kernel's run, as functions of the argument arrays. -/
module

public import proofs.«01_k».proof.Proof.Body

@[expose] public section

set_option maxRecDepth 16384

noncomputable section

namespace Cert.KernelIdeal.Value

open Idealize.ShloMosaic Idealize.ShloMosaic.TcCoe Idealize.ShloMosaic.Tactic
open Idealize.SL Idealize.SL.RA Idealize.SL.Sem
open Idealize.ShloMosaic.Pipeline (Dat RDat Cfg Window)
open Cert.KernelIdeal Cert.KernelIdeal.Gen Cert.Quant

/-- The codes, the scales and the residuals of three argument arrays. -/
def codes (X Y : S47104x5120.Idx → EReal) (E : S5120x5120.Idx → EReal) : S5120x5120.Idx → BitVec 8 :=
  fun y => codeAt (totalAt X Y E) (y 0).val (y 1).val
def scales (X Y : S47104x5120.Idx → EReal) (E : S5120x5120.Idx → EReal) : S5120x40.Idx → EReal :=
  fun y => scaleAt (totalAt X Y E) (y 0).val (y 1).val
def resids (X Y : S47104x5120.Idx → EReal) (E : S5120x5120.Idx → EReal) : S5120x5120.Idx → EReal :=
  fun y => residAt (totalAt X Y E) (y 0).val (y 1).val

variable (m : (ℓ : Loc nD τ sig) → Buf (Elt Ideal) ℓ) (ρ : Dev nD → PrngReg)

/-- Where an index of a result's block lies in its array. -/
theorem emb3_0 (t : Fin cfg0.N) (y : S1280x1280.Idx) : ((((cfg0.win 3).blk t).view.emb y : S5120x5120.Idx) 0).val = 1280 * (t.val / 92) + (y 0).val := by
  show win0_3.index t (0 : Fin 2) * 1280 + 1 * (y 0).val = _; rw [index3_0]; omega
theorem emb3_1 (t : Fin cfg0.N) (y : S1280x1280.Idx) : ((((cfg0.win 3).blk t).view.emb y : S5120x5120.Idx) 1).val = 1280 * (t.val / 23 % 4) + (y 1).val := by
  show win0_3.index t (1 : Fin 2) * 1280 + 1 * (y 1).val = _; rw [index3_1]; omega
theorem emb4_0 (t : Fin cfg0.N) (y : S1280x40.Idx) : ((((cfg0.win 4).blk t).view.emb y : S5120x40.Idx) 0).val = 1280 * (t.val / 92) + (y 0).val := by
  show win0_4.index t (0 : Fin 2) * 1280 + 1 * (y 0).val = _; rw [index4_0]; omega
theorem emb4_1 (t : Fin cfg0.N) (y : S1280x40.Idx) : ((((cfg0.win 4).blk t).view.emb y : S5120x40.Idx) 1).val = (y 1).val := by
  show win0_4.index t (1 : Fin 2) * 40 + 1 * (y 1).val = _; rw [index4_1]; omega
theorem emb5_0 (t : Fin cfg0.N) (y : S1280x1280.Idx) : ((((cfg0.win 5).blk t).view.emb y : S5120x5120.Idx) 0).val = 1280 * (t.val / 92) + (y 0).val := by
  show win0_5.index t (0 : Fin 2) * 1280 + 1 * (y 0).val = _; rw [index5_0]; omega
theorem emb5_1 (t : Fin cfg0.N) (y : S1280x1280.Idx) : ((((cfg0.win 5).blk t).view.emb y : S5120x5120.Idx) 1).val = 1280 * (t.val / 23 % 4) + (y 1).val := by
  show win0_5.index t (1 : Fin 2) * 1280 + 1 * (y 1).val = _; rw [index5_1]; omega

section After

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The codes' array: each block's codes, the blocks tiling the array. -/
theorem final3 : ((rdat m c).withAfter after).arrAt 3 cfg0.N = codes (argX m c) (argY m c) (argE m c) := by
  refine Dat.arrAt_eq_of_covers _ 3 _ (by decide +kernel) fun t hf y => ?_
  have h22 := (flush0_3 t).mp hf
  have h3 : held3 m c t (after 3 t) := (dats m 0 c).toRRel_leaves (w := 3) (fgt := marked) (Rl := held m c) rfl (hL 3 t hf)
  have e := congrFun (h3 h22) y
  refine e.trans ?_
  show codeAt (totalBlk m c t) (y 0).val (y 1).val = codeAt (total m c) ((((cfg0.win 3).blk t).view.emb y : S5120x5120.Idx) 0).val ((((cfg0.win 3).blk t).view.emb y : S5120x5120.Idx) 1).val
  rw [emb3_0, emb3_1]
  exact codeAt_shift _ _ _ _ _

/-- The scales' array: each row block's scales, complete at its last block of lanes. -/
theorem final4 : ((rdat m c).withAfter after).arrAt 4 cfg0.N = scales (argX m c) (argY m c) (argE m c) := by
  refine Dat.arrAt_eq_of_covers _ 4 _ (by decide +kernel) fun t hf y => ?_
  have h91 := (flush0_4 t).mp hf
  have h4 : held4 m c t (after 4 t) := (dats m 0 c).toRRel_leaves (w := 4) (fgt := marked) (Rl := held m c) rfl (hL 4 t hf)
  have hb : (y 1).val < 40 := (y 1).isLt
  have e := h4 (y 0) (y 1) (by
    show (y 1).val < _
    rw [if_pos (by omega)]; omega)
  have hy : (ix2 (y 0) (y 1) : S1280x40.Idx) = y := (eq_ix2 y).symm
  rw [hy] at e
  refine e.trans ?_
  show scaleAt (total m c) (1280 * (t.val / 92) + (y 0).val) (y 1).val = scaleAt (total m c) ((((cfg0.win 4).blk t).view.emb y : S5120x40.Idx) 0).val ((((cfg0.win 4).blk t).view.emb y : S5120x40.Idx) 1).val
  rw [emb4_0, emb4_1]

/-- The residuals' array. -/
theorem final5 : ((rdat m c).withAfter after).arrAt 5 cfg0.N = resids (argX m c) (argY m c) (argE m c) := by
  refine Dat.arrAt_eq_of_covers _ 5 _ (by decide +kernel) fun t hf y => ?_
  have h22 := (flush0_5 t).mp hf
  have h5 : held5 m c t (after 5 t) := (dats m 0 c).toRRel_leaves (w := 5) (fgt := marked) (Rl := held m c) rfl (hL 5 t hf)
  have e := congrFun (h5.1 h22) y
  refine e.trans ?_
  show residAt (totalBlk m c t) (y 0).val (y 1).val = residAt (total m c) ((((cfg0.win 5).blk t).view.emb y : S5120x5120.Idx) 0).val ((((cfg0.win 5).blk t).view.emb y : S5120x5120.Idx) 1).val
  rw [emb5_0, emb5_1]
  exact residAt_shift _ _ _ _ _

end After

/-- The run, read: each result's array at its function of the arguments, the arguments unchanged. -/
theorem run : θ_run defs (onTc (τ := τ) (main (F := Ideal))) ⟨m, fun _ => 0, ρ⟩ fun r => ∀ c : Dev nD,
      r.2.mem ((c.tc : Thread nD τ).loc main_v0_0) = codes (argX m c) (argY m c) (argE m c)
      ∧ r.2.mem ((c.tc : Thread nD τ).loc main_v0_1) = scales (argX m c) (argY m c) (argE m c)
      ∧ r.2.mem ((c.tc : Thread nD τ).loc main_v0_2) = resids (argX m c) (argY m c) (argE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main m ρ)
  obtain ⟨after, hL, hA⟩ := RDat.FramePost.exists_exact h.1 c
  exact ⟨(hA 3).trans (final3 m c after hL), (hA 4).trans (final4 m c after hL), (hA 5).trans (final5 m c after hL),
    (RDat.FramePost.arr_in h.1 c 0 rfl).trans ((A_eq m c 0).trans (V_main_arg0 m c)),
    (RDat.FramePost.arr_in h.1 c 1 rfl).trans ((A_eq m c 1).trans (V_main_arg1 m c)),
    (RDat.FramePost.arr_in h.1 c 2 rfl).trans ((A_eq m c 2).trans (V_main_arg2 m c))⟩

end Cert.KernelIdeal.Value

end
-- ==== Proof.RoundTrip.lean ====
/- A code survives its conversion to a signed byte and back: clipped to [-127, 127] it is an integer of a byte. -/
module

public import proofs.«01_k».proof.Proof.Quantizer

@[expose] public section

noncomputable section

namespace Cert.Quant

open Idealize.ShloMosaic

theorem ofBits_127 : Ideal.ofBits .f32 0x42FE0000#32 = ((127 : ℤ) : ℝ) := by
  simp [Ideal.ofBits, Ideal.ieee, -EReal.coe_mul]; norm_num

theorem ofBits_neg127 : Ideal.ofBits .f32 0xC2FE0000#32 = (((-127 : ℤ) : ℝ) : EReal) := by
  simp [Ideal.ofBits, Ideal.ieee, -EReal.coe_mul]; norm_num

/-- A clipped rounded quotient is an integer between -127 and 127. -/
theorem codeOf_int (row : Fin 128 → EReal) (x : EReal) : ∃ n : ℤ, -127 ≤ n ∧ n ≤ 127 ∧ codeOf row x = ((n : ℝ) : EReal) := by
  unfold codeOf
  rw [ofBits_127, ofBits_neg127]
  generalize Ideal.div x (scaleOf row) = z
  match z with
  | ⊥ =>
    refine ⟨-127, le_refl _, by norm_num, ?_⟩
    show min (((127 : ℤ) : ℝ) : EReal) (max (((-127 : ℤ) : ℝ) : EReal) ⊥) = _
    rw [max_eq_left bot_le]
    exact min_eq_right (by exact_mod_cast (by norm_num : (-127 : ℤ) ≤ 127))
  | ⊤ =>
    refine ⟨127, by norm_num, le_refl _, ?_⟩
    show min (((127 : ℤ) : ℝ) : EReal) (max (((-127 : ℤ) : ℝ) : EReal) ⊤) = _
    rw [max_eq_right le_top, min_eq_left le_top]
  | (r : ℝ) =>
    refine ⟨min 127 (max (-127) (Ideal.roundHalfEven r)), le_min (by norm_num) (le_max_left _ _), min_le_left _ _, ?_⟩
    show min (((127 : ℤ) : ℝ) : EReal) (max (((-127 : ℤ) : ℝ) : EReal) ((Ideal.roundHalfEven r : ℝ) : EReal)) = _
    rw [← EReal.coe_strictMono.monotone.map_max, ← EReal.coe_strictMono.monotone.map_min, ← Int.cast_max, ← Int.cast_min]

/-- The byte of a code reads back as the code. -/
theorem toInt_codeWord (row : Fin 128 → EReal) (x : EReal) : (((codeWord row x).toInt : ℝ) : EReal) = codeOf row x := by
  obtain ⟨n, h1, h2, h⟩ := codeOf_int row x
  unfold codeWord Ideal.fptosi
  rw [h]
  have e : Ideal.toIntClamped (-(2 ^ (8 - 1) : Nat)) ((2 ^ (8 - 1) : Nat) - 1) (((n : ℝ) : EReal)) = n := by
    show max _ (min _ (if 0 ≤ (n : ℝ) then ⌊(n : ℝ)⌋ else ⌈(n : ℝ)⌉)) = n
    rw [Int.floor_intCast, Int.ceil_intCast, ite_self]
    norm_num
    omega
  rw [e]
  have e2 : (BitVec.ofInt 8 n).toInt = n := by
    rw [BitVec.toInt_ofInt]
    exact Int.bmod_eq_of_le (by norm_num; omega) (by norm_num; omega)
  rw [e2]

end Cert.Quant

end
-- ==== Proof.RefValue.lean ====
/- The reference's three results at an index: the same codes, scales and residuals as the kernel's. -/
module

public import proofs.«01_k».proof.Proof.Arrays
public import proofs.«01_k».proof.Proof.RoundTrip
public import proofs.«01_k».proof.Proof.Gen.ReferenceIdeal.Value

@[expose] public section

set_option maxRecDepth 16384

noncomputable section

namespace Cert.ReferenceIdeal.Results

open Idealize.ShloMosaic
open Cert.ReferenceIdeal Cert.ReferenceIdeal.Gen Cert.Quant
open Cert.KernelIdeal.Value (entry entry_ix2 partialAt totalAt rowAt scaleAt codeAt residAt codes scales resids)

/-! ## The layout operations at an index -/

/-- The largest value of a run of 128 lanes. -/
theorem max_at (v : FVec Ideal S5120x40x128 .f32) (p : Fin 5120) (b : Fin 40) :
    (multiReduction .maximumf [2] S5120x40 v 0xFF800000#32 reduces_S5120x40x128_S5120x40 (.inl rfl) rfl : FVec Ideal S5120x40 .f32) (ix2 p b)
      = Finset.univ.fold max (Ideal.ofBits .f32 0xFF800000#32) fun k : Fin 128 => v (ix3 p b k) := by
  pointwise []

/-- A row cut into runs of 128 lanes. -/
theorem cut_at {e : Type} (v : S5120x5120.Idx → e) (p : Fin 5120) (b : Fin 40) (l : Fin 128) :
    shapeCast S5120x40x128 v shapeCasts_S5120x5120_S5120x40x128 (ix3 p b l) = v (ix2 p ⟨128 * b.val + l.val, by omega⟩) := by
  pointwise []
  refine congrArg v (congrArg (ix2 p) (Fin.ext ?_))
  show b.val * 128 + l.val = 128 * b.val + l.val
  omega

/-- The runs joined to a row again. -/
theorem join_at {e : Type} (v : S5120x40x128.Idx → e) (p q : Fin 5120) :
    shapeCast S5120x5120 v shapeCasts_S5120x40x128_S5120x5120 (ix2 p q) = v (ix3 p ⟨q.val / 128, by omega⟩ ⟨q.val % 128, by omega⟩) := by
  pointwise []

/-- A run's scale at each of its lanes. -/
theorem spread_at (s : FVec Ideal S5120x40 .f32) (p : Fin 5120) (b : Fin 40) (l : Fin 128) :
    (broadcastTo S5120x40x128 (shapeCast S5120x40x1 s shapeCasts_S5120x40_S5120x40x1) broadcasts_S5120x40x1_S5120x40x128 : FVec Ideal S5120x40x128 .f32) (ix3 p b l) = s (ix2 p b) := by
  pointwise []

/-! ## The results -/

/-- A product of two arrays at an index, as a sum over natural numbers. -/
theorem sum_entry {K a b : ℕ} (X : (⟨2, ![K, a]⟩ : Shape).Idx → EReal) (Y : (⟨2, ![K, b]⟩ : Shape).Idx → EReal) (p : Fin a) (q : Fin b) :
    ∑ s ∈ Finset.range K, entry X s p.val * entry Y s q.val = ∑ s : Fin K, X (ix2 s p) * Y (ix2 s q) := by
  rw [Finset.sum_range]
  exact Finset.sum_congr rfl fun s _ => by rw [entry_ix2, entry_ix2]

variable (X Y : Vec Ideal S47104x5120 .bf16) (E : Vec Ideal S5120x5120 .f32)

/-- The corrected gradient at an index. -/
theorem pay1_at (p q : Fin 5120) : (k0_pay1 (F := Ideal) X Y E) (ix2 p q) = totalAt X Y E p.val q.val := by
  have e : (k0_pay1 (F := Ideal) X Y E) (ix2 p q) = (∑ s : Fin 47104, X (ix2 s p) * Y (ix2 s q)) + E (ix2 p q) := by
    unfold k0_pay1
    pointwise []
  rw [e]
  unfold totalAt partialAt
  rw [sum_entry X Y p q, entry_ix2 E p q]

/-- The same cut into runs of 128 lanes. -/
theorem pay2_at (p : Fin 5120) (b : Fin 40) (l : Fin 128) :
    (k0_pay2 (F := Ideal) X Y E) (ix3 p b l) = rowAt (totalAt X Y E) p.val b.val l := by
  unfold k0_pay2
  exact (cut_at _ p b l).trans (pay1_at X Y E p _)

/-- A run's largest magnitude. -/
theorem amax_at (p : Fin 5120) (b : Fin 40) :
    (multiReduction .maximumf [2] S5120x40 (absf (k0_pay2 (F := Ideal) X Y E)) 0xFF800000#32 reduces_S5120x40x128_S5120x40 (.inl rfl) rfl : FVec Ideal S5120x40 .f32) (ix2 p b)
      = amax (rowAt (totalAt X Y E) p.val b.val) := by
  refine (max_at _ p b).trans ?_
  unfold amax
  refine congrArg (fun f => Finset.univ.fold max (Ideal.ofBits .f32 0xFF800000#32) f) (funext fun k => ?_)
  rw [← pay2_at X Y E p b k]
  rfl

/-- The reference's scale operations at an index. -/
theorem scale_scalar (R : FVec Ideal S5120x40 .f32) (p : Fin 5120) (b : Fin 40) :
    (select (cmpf .ogt R (broadcast S5120x40 (Scalar.ofBits .f32 0x00000000#32))) (divf R (broadcast S5120x40 (Scalar.ofBits .f32 0x42FE0000#32)))
      (broadcast S5120x40 (Scalar.ofBits .f32 0x3F800000#32)) : FVec Ideal S5120x40 .f32) (ix2 p b)
      = Scalar.select (Ideal.cmp .ogt (R (ix2 p b)) 0) (Ideal.div (R (ix2 p b)) (Ideal.ofBits .f32 0x42FE0000#32)) 1 := by
  pointwise []

/-- The reference's code operations at an index. -/
theorem code_scalar (A B : FVec Ideal S5120x40x128 .f32) (p : Fin 5120) (b : Fin 40) (l : Fin 128) :
    (fptosi 8 (minimumf (broadcast S5120x40x128 (Scalar.ofBits .f32 0x42FE0000#32)) (maximumf (broadcast S5120x40x128 (Scalar.ofBits .f32 0xC2FE0000#32))
      (roundeven (divf A B)))) : IVec S5120x40x128 8) (ix3 p b l)
      = Ideal.fptosi 8 (min (Ideal.ofBits .f32 0x42FE0000#32) (max (Ideal.ofBits .f32 0xC2FE0000#32)
          (Ideal.liftRound Ideal.roundHalfEven (Ideal.div (A (ix3 p b l)) (B (ix3 p b l)))))) := by
  pointwise []
  rfl

/-- The reference's residual operations at an index. -/
theorem resid_scalar (G : FVec Ideal S5120x5120 .f32) (C : IVec S5120x40x128 8) (B : FVec Ideal S5120x40x128 .f32) (p q : Fin 5120) :
    (subf G (shapeCast S5120x5120 (mulf (sitofp .f32 C) B) shapeCasts_S5120x40x128_S5120x5120) : FVec Ideal S5120x5120 .f32) (ix2 p q)
      = G (ix2 p q) - (((C (ix3 p ⟨q.val / 128, by omega⟩ ⟨q.val % 128, by omega⟩)).toInt : ℝ) : EReal) * B (ix3 p ⟨q.val / 128, by omega⟩ ⟨q.val % 128, by omega⟩) := by
  pointwise []
  rfl

/-- The scales. -/
theorem pay3_at (p : Fin 5120) (b : Fin 40) : (k0_pay3 (F := Ideal) X Y E) (ix2 p b) = scaleAt (totalAt X Y E) p.val b.val := by
  unfold k0_pay3
  refine (scale_scalar _ p b).trans ?_
  rw [amax_at X Y E p b]
  rfl

/-- A lane's value, by its run and its place in the run. -/
theorem lane_at (p q : Fin 5120) : rowAt (totalAt X Y E) p.val (q.val / 128) ⟨q.val % 128, by omega⟩ = totalAt X Y E p.val q.val := by
  show totalAt X Y E p.val (128 * (q.val / 128) + q.val % 128) = _
  rw [Nat.div_add_mod]

/-- A run's scale at each lane. -/
theorem spread3_at (p : Fin 5120) (b : Fin 40) (l : Fin 128) :
    (broadcastTo S5120x40x128 (shapeCast S5120x40x1 (k0_pay3 (F := Ideal) X Y E) shapeCasts_S5120x40_S5120x40x1) broadcasts_S5120x40x1_S5120x40x128 : FVec Ideal S5120x40x128 .f32) (ix3 p b l)
      = scaleOf (rowAt (totalAt X Y E) p.val b.val) :=
  (spread_at _ p b l).trans (pay3_at X Y E p b)

/-- The codes. -/
theorem pay4_at (p q : Fin 5120) : (k0_pay4 (F := Ideal) X Y E) (ix2 p q) = codeAt (totalAt X Y E) p.val q.val := by
  unfold k0_pay4
  refine (join_at _ p q).trans ?_
  refine (code_scalar _ _ p _ _).trans ?_
  rw [pay2_at, spread3_at, lane_at]
  rfl

/-- The codes, cut into runs again. -/
theorem code3_at (p q : Fin 5120) :
    (shapeCast S5120x40x128 (k0_pay4 (F := Ideal) X Y E) shapeCasts_S5120x5120_S5120x40x128 : IVec S5120x40x128 8) (ix3 p ⟨q.val / 128, by omega⟩ ⟨q.val % 128, by omega⟩)
      = codeAt (totalAt X Y E) p.val q.val := by
  refine (cut_at _ p _ _).trans ((pay4_at X Y E p _).trans ?_)
  show codeAt (totalAt X Y E) p.val (128 * (q.val / 128) + q.val % 128) = _
  rw [Nat.div_add_mod]

/-- The residuals. -/
theorem pay5_at (p q : Fin 5120) : (k0_pay5 (F := Ideal) X Y E) (ix2 p q) = residAt (totalAt X Y E) p.val q.val := by
  unfold k0_pay5
  refine (resid_scalar _ _ _ p q).trans ?_
  rw [pay1_at, code3_at, spread3_at]
  unfold codeAt
  rw [toInt_codeWord]
  rfl

/-! ## The results as arrays -/

theorem pay3_eq : k0_pay3 (F := Ideal) X Y E = scales X Y E := funext fun y => by
  obtain ⟨p, q, rfl⟩ : ∃ p q, y = ix2 p q := ⟨y 0, y 1, eq_ix2 y⟩
  exact pay3_at X Y E p q

theorem pay4_eq : k0_pay4 (F := Ideal) X Y E = codes X Y E := funext fun y => by
  obtain ⟨p, q, rfl⟩ : ∃ p q, y = ix2 p q := ⟨y 0, y 1, eq_ix2 y⟩
  exact pay4_at X Y E p q

theorem pay5_eq : k0_pay5 (F := Ideal) X Y E = resids X Y E := funext fun y => by
  obtain ⟨p, q, rfl⟩ : ∃ p q, y = ix2 p q := ⟨y 0, y 1, eq_ix2 y⟩
  exact pay5_at X Y E p q

end Cert.ReferenceIdeal.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.RefValue
public import Idealize.ShloMosaic.Adequacy
public import Idealize.ShloMosaic.Init

@[expose] public section

noncomputable section

namespace Cert.Proof

open Idealize.ShloMosaic Idealize.SL.Sem
open Cert.KernelIdeal.Value (codes scales resids argX argY argE)

/-- From equal arguments the kernel and the reference end with equal codes, scales and residuals. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => codes (argX m c) (argY m c) (argE m c), fun c => scales (argX m c) (argY m c) (argE m c),
    fun c => resids (argX m c) (argY m c) (argE m c), Cert.KernelIdeal.Value.run m g, ?_⟩
  refine (θ_run _ _ _).mono (fun r h c => ?_) (Cert.ReferenceIdeal.Value.run (F := Ideal) m' g')
  obtain ⟨h0, h1, h2, hk⟩ := h c
  obtain ⟨e0, e1, e2⟩ := hargs c
  rw [e0, e1, e2] at h0 h1 h2
  exact ⟨h0.trans (Cert.ReferenceIdeal.Results.pay4_eq _ _ _), h1.trans (Cert.ReferenceIdeal.Results.pay3_eq _ _ _),
    h2.trans (Cert.ReferenceIdeal.Results.pay5_eq _ _ _), hk⟩

theorem claim : Cert.Claim := ⟨Cert.Kernel.Gen.facts, Cert.KernelIdeal.Gen.facts, Cert.ReferenceIdeal.Gen.facts,
  fun m ρ _ => Cert.Kernel.Args.frame m ρ, fun m ρ _ => Cert.KernelIdeal.Value.frame m ρ,
  fun m ρ _ => Cert.ReferenceIdeal.Gen.frame m ρ, trivial, algebraic⟩

end Cert.Proof

end
